-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![512, 4096]⟩ ⟨2, ![512, 16384]⟩ (Layout.meshBlock [2, 4, 4] ![[], [2]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 16384]⟩ ⟨2, ![1024, 16384]⟩ (Layout.meshBlock [2, 4, 4] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v77) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S256x512 : Shape := ⟨2, ![256, 512]⟩
abbrev S512x4096 : Shape := ⟨2, ![512, 4096]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_

variable [Facts]

def fn {F : FTy → Type} [FloatOps F] (main_arg0 : FVec F S256x512 .bf16) (main_arg1 : FVec F S512x4096 .bf16) : IVec S_ 1 :=
  let main_v0 : FVec F S256x512 .bf16 := Host.absf main_arg0
  let main_cst : FVec F S_ .bf16 := constant S_ .bf16 0x7F80#16
  let main_v1 : FVec F S256x512 .bf16 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x4096 .bf16 := Host.absf main_arg1
  let main_cst_0 : FVec F S_ .bf16 := constant S_ .bf16 0x7F80#16
  let main_v5 : FVec F S512x4096 .bf16 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  main_v8
-- ==== Pre_finite_inputs_ReferenceIdeal.lean ====
abbrev S256x512 : Shape := ⟨2, ![256, 512]⟩
abbrev S512x16384 : Shape := ⟨2, ![512, 16384]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x16384 : S_.BroadcastsInDim S512x16384 (![] : Fin 0 → Fin S512x16384.rank)
  reducesTo_S512x16384_S_d0_1 : S512x16384.ReducesTo [0, 1] S_

variable [Facts]

def fn {F : FTy → Type} [FloatOps F] (main_arg0 : FVec F S256x512 .bf16) (main_arg1 : FVec F S512x16384 .bf16) : IVec S_ 1 :=
  let main_v0 : FVec F S256x512 .bf16 := Host.absf main_arg0
  let main_cst : FVec F S_ .bf16 := constant S_ .bf16 0x7F80#16
  let main_v1 : FVec F S256x512 .bf16 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x16384 .bf16 := Host.absf main_arg1
  let main_cst_0 : FVec F S_ .bf16 := constant S_ .bf16 0x7F80#16
  let main_v5 : FVec F S512x16384 .bf16 := broadcastInDim S512x16384 ![] bcast_S_S512x16384 main_cst_0
  let main_v6 : IVec S512x16384 1 := cmpf .olt main_v4 main_v5
  let main_c_1 : IVec S_ 1 := constantI S_ 1 1#1
  let main_v7 : IVec S_ 1 := (fun x v => Host.reduce IntOp.andi x v reducesTo_S512x16384_S_d0_1 h_S_) main_v6 main_c_1
  let main_v8 : IVec S_ 1 := andi main_v3 main_v7
  main_v8
-- ==== Kernel.lean ====
abbrev S256x512 : Shape := ⟨2, ![256, 512]⟩
abbrev S512x4096 : Shape := ⟨2, ![512, 4096]⟩
abbrev S256x16384 : Shape := ⟨2, ![256, 16384]⟩
abbrev S4x2x256x1024 : Shape := ⟨4, ![4, 2, 256, 1024]⟩
abbrev S3x2x256x1024 : Shape := ⟨4, ![3, 2, 256, 1024]⟩
abbrev S3x2 : Shape := ⟨2, ![3, 2]⟩
abbrev S_ : Shape := ⟨0, ![]⟩
abbrev S512x1024 : Shape := ⟨2, ![512, 1024]⟩
abbrev S256x1024 : Shape := ⟨2, ![256, 1024]⟩
abbrev S1x1x256x1024 : Shape := ⟨4, ![1, 1, 256, 1024]⟩
abbrev S1x1 : Shape := ⟨2, ![1, 1]⟩
abbrev S512x2048 : Shape := ⟨2, ![512, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S256x512, .bf16⟩
  | .hbm, ⟨1, _⟩ => ⟨S512x4096, .bf16⟩
  | .hbm, ⟨2, _⟩ => ⟨S256x16384, .bf16⟩
  | .local _ .vmem, ⟨0, _⟩ => ⟨S256x512, .bf16⟩
  | .local _ .vmem, ⟨1, _⟩ => ⟨S512x4096, .bf16⟩
  | .local _ .vmem, ⟨2, _⟩ => ⟨S256x16384, .bf16⟩
  | .local _ .vmem, ⟨3, _⟩ => ⟨S4x2x256x1024, .i8⟩
  | .local _ .vmem, ⟨4, _⟩ => ⟨S3x2x256x1024, .i8⟩
  | _, _ => ⟨S256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_24 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_23 : BitVec 32 := 16#32
  let v39 : BitVec 32 := Scalar.muli v2 c16_i32_23
  let v40 : BitVec 32 := Scalar.addi c0_i32_24 v39
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_25 : BitVec 32 := 4#32
  let v41 : BitVec 32 := Scalar.muli v5 c4_i32_25
  let v42 : BitVec 32 := Scalar.addi v40 v41
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.subi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_26 : BitVec 32 := 1#32
  let v43 : BitVec 32 := Scalar.muli v19 c1_i32_26
  let v44 : BitVec 32 := Scalar.addi v42 v43
  v44.toNat
def k0_dev2 (d0 : Dev nD) : Nat :=
  let c0_i32_29 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_28 : BitVec 32 := 16#32
  let v45 : BitVec 32 := Scalar.muli v2 c16_i32_28
  let v46 : BitVec 32 := Scalar.addi c0_i32_29 v45
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_30 : BitVec 32 := 4#32
  let v47 : BitVec 32 := Scalar.muli v5 c4_i32_30
  let v48 : BitVec 32 := Scalar.addi v46 v47
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_31 : BitVec 32 := 1#32
  let v49 : BitVec 32 := Scalar.muli v30 c1_i32_31
  let v50 : BitVec 32 := Scalar.addi v48 v49
  v50.toNat
def k0_dev3 (d0 : Dev nD) : Nat :=
  let c0_i32_34 : BitVec 32 := 0#32
  let c1_i32_21 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v38 : BitVec 32 := Scalar.subi c1_i32_21 v2
  let c16_i32_33 : BitVec 32 := 16#32
  let v51 : BitVec 32 := Scalar.muli v38 c16_i32_33
  let v52 : BitVec 32 := Scalar.addi c0_i32_34 v51
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_35 : BitVec 32 := 4#32
  let v53 : BitVec 32 := Scalar.muli v5 c4_i32_35
  let v54 : BitVec 32 := Scalar.addi v52 v53
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_36 : BitVec 32 := 1#32
  let v55 : BitVec 32 := Scalar.muli v8 c1_i32_36
  let v56 : BitVec 32 := Scalar.addi v54 v55
  v56.toNat
def k0_off1 (d0 : Dev nD) (c0_i32_38 : BitVec 32) : Fin 2 → Nat :=
  let c0_39 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v59 : BitVec 32 := Scalar.muli v2 c2048_i32
  let v60 : BitVec 32 := Scalar.addi v59 c0_i32_38
  let v61 : Index := Scalar.indexCast v60
  ![0, v61.toNat]
def k0_dev4 (d0 : Dev nD) : Nat :=
  let c0_i32_56 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_55 : BitVec 32 := 16#32
  let v76 : BitVec 32 := Scalar.muli v2 c16_i32_55
  let v77 : BitVec 32 := Scalar.addi c0_i32_56 v76
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_57 : BitVec 32 := 4#32
  let v78 : BitVec 32 := Scalar.muli v5 c4_i32_57
  let v79 : BitVec 32 := Scalar.addi v77 v78
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_58 : BitVec 32 := 1#32
  let v80 : BitVec 32 := Scalar.muli v30 c1_i32_58
  let v81 : BitVec 32 := Scalar.addi v79 v80
  v81.toNat
def k0_dev5 (d0 : Dev nD) : Nat :=
  let c0_i32_81 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_80 : BitVec 32 := 16#32
  let v107 : BitVec 32 := Scalar.muli v2 c16_i32_80
  let v108 : BitVec 32 := Scalar.addi c0_i32_81 v107
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_82 : BitVec 32 := 4#32
  let v109 : BitVec 32 := Scalar.muli v5 c4_i32_82
  let v110 : BitVec 32 := Scalar.addi v108 v109
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_83 : BitVec 32 := 1#32
  let v111 : BitVec 32 := Scalar.muli v30 c1_i32_83
  let v112 : BitVec 32 := Scalar.addi v110 v111
  v112.toNat
def k0_off2 (d0 : Dev nD) : Fin 2 → Nat :=
  let c0_90 : Index := 0#32
  let c1_i32_88 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v121 : BitVec 32 := Scalar.subi c1_i32_88 v2
  let c2048_i32_89 : BitVec 32 := 2048#32
  let v122 : BitVec 32 := Scalar.muli v121 c2048_i32_89
  let v123 : Index := Scalar.indexCast v122
  ![0, v123.toNat]
def k0_off3 (d0 : Dev nD) : Fin 2 → Nat :=
  let c0_95 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32 : BitVec 32 := 4096#32
  let v131 : BitVec 32 := Scalar.muli v8 c4096_i32
  let c1_i32_93 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v132 : BitVec 32 := Scalar.subi c1_i32_93 v2
  let c2048_i32_94 : BitVec 32 := 2048#32
  let v133 : BitVec 32 := Scalar.muli v132 c2048_i32_94
  let v134 : BitVec 32 := Scalar.addi v131 v133
  let v135 : Index := Scalar.indexCast v134
  ![0, v135.toNat]
def k0_off4 (d0 : Dev nD) (c0_i32_99 : BitVec 32) : Fin 2 → Nat :=
  let c0_100 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32_97 : BitVec 32 := 4096#32
  let v142 : BitVec 32 := Scalar.muli v8 c4096_i32_97
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_98 : BitVec 32 := 2048#32
  let v143 : BitVec 32 := Scalar.muli v2 c2048_i32_98
  let v144 : BitVec 32 := Scalar.addi v142 v143
  let v145 : BitVec 32 := Scalar.addi v144 c0_i32_99
  let v146 : Index := Scalar.indexCast v145
  ![0, v146.toNat]
def k0_dev6 (d0 : Dev nD) : Nat :=
  let c0_i32_131 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_130 : BitVec 32 := 16#32
  let v171 : BitVec 32 := Scalar.muli v2 c16_i32_130
  let v172 : BitVec 32 := Scalar.addi c0_i32_131 v171
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_132 : BitVec 32 := 4#32
  let v173 : BitVec 32 := Scalar.muli v5 c4_i32_132
  let v174 : BitVec 32 := Scalar.addi v172 v173
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_133 : BitVec 32 := 1#32
  let v175 : BitVec 32 := Scalar.muli v30 c1_i32_133
  let v176 : BitVec 32 := Scalar.addi v174 v175
  v176.toNat
def k0_dev7 (d0 : Dev nD) : Nat :=
  let c0_i32_147 : BitVec 32 := 0#32
  let c1_i32_15 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v31 : BitVec 32 := Scalar.subi c1_i32_15 v2
  let c16_i32_146 : BitVec 32 := 16#32
  let v185 : BitVec 32 := Scalar.muli v31 c16_i32_146
  let v186 : BitVec 32 := Scalar.addi c0_i32_147 v185
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_148 : BitVec 32 := 4#32
  let v187 : BitVec 32 := Scalar.muli v5 c4_i32_148
  let v188 : BitVec 32 := Scalar.addi v186 v187
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_149 : BitVec 32 := 1#32
  let v189 : BitVec 32 := Scalar.muli v8 c1_i32_149
  let v190 : BitVec 32 := Scalar.addi v188 v189
  v190.toNat
def k0_off5 (d0 : Dev nD) (c1_i32_154 : BitVec 32) (c0_i32_169 : BitVec 32) : Fin 2 → Nat :=
  let c0_170 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v199 : BitVec 32 := Scalar.subi v8 c1_i32_154
  let c4_i32_155 : BitVec 32 := 4#32
  let c0_i32_156 : BitVec 32 := 0#32
  let v200 : BitVec 1 := Scalar.cmpi .eq c4_i32_155 c0_i32_156
  let c1_i32_157 : BitVec 32 := 1#32
  let v201 : BitVec 32 := Scalar.select v200 c1_i32_157 c4_i32_155
  let v202 : BitVec 32 := Scalar.remsi v199 v201
  let c0_i32_159 : BitVec 32 := 0#32
  let v204 : BitVec 1 := Scalar.cmpi .slt v202 c0_i32_159
  let c0_i32_160 : BitVec 32 := 0#32
  let v205 : BitVec 1 := Scalar.cmpi .slt v201 c0_i32_160
  let v206 : BitVec 1 := Scalar.xori v204 v205
  let c0_i32_158 : BitVec 32 := 0#32
  let v203 : BitVec 1 := Scalar.cmpi .ne v202 c0_i32_158
  let v207 : BitVec 1 := Scalar.andi v206 v203
  let v208 : BitVec 32 := Scalar.addi v202 v201
  let v209 : BitVec 32 := Scalar.select v207 v208 v202
  let c4096_i32_167 : BitVec 32 := 4096#32
  let v219 : BitVec 32 := Scalar.muli v209 c4096_i32_167
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_168 : BitVec 32 := 2048#32
  let v220 : BitVec 32 := Scalar.muli v2 c2048_i32_168
  let v221 : BitVec 32 := Scalar.addi v219 v220
  let v222 : BitVec 32 := Scalar.addi v221 c0_i32_169
  let v224 : Index := Scalar.indexCast v222
  ![0, v224.toNat]
def k0_dev8 (d0 : Dev nD) : Nat :=
  let c0_i32_196 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_195 : BitVec 32 := 16#32
  let v238 : BitVec 32 := Scalar.muli v2 c16_i32_195
  let v239 : BitVec 32 := Scalar.addi c0_i32_196 v238
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_197 : BitVec 32 := 4#32
  let v240 : BitVec 32 := Scalar.muli v5 c4_i32_197
  let v241 : BitVec 32 := Scalar.addi v239 v240
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_198 : BitVec 32 := 1#32
  let v242 : BitVec 32 := Scalar.muli v30 c1_i32_198
  let v243 : BitVec 32 := Scalar.addi v241 v242
  v243.toNat
def k0_dev9 (d0 : Dev nD) : Nat :=
  let c0_i32_212 : BitVec 32 := 0#32
  let c1_i32_16 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v32 : BitVec 32 := Scalar.subi c1_i32_16 v2
  let c16_i32_211 : BitVec 32 := 16#32
  let v252 : BitVec 32 := Scalar.muli v32 c16_i32_211
  let v253 : BitVec 32 := Scalar.addi c0_i32_212 v252
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_213 : BitVec 32 := 4#32
  let v254 : BitVec 32 := Scalar.muli v5 c4_i32_213
  let v255 : BitVec 32 := Scalar.addi v253 v254
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_214 : BitVec 32 := 1#32
  let v256 : BitVec 32 := Scalar.muli v8 c1_i32_214
  let v257 : BitVec 32 := Scalar.addi v255 v256
  v257.toNat
def k0_off6 (d0 : Dev nD) (c1_i32_252 : BitVec 32) (c0_i32_268 : BitVec 32) : Fin 2 → Nat :=
  let c0_269 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v305 : BitVec 32 := Scalar.subi v8 c1_i32_252
  let c4_i32_253 : BitVec 32 := 4#32
  let c0_i32_254 : BitVec 32 := 0#32
  let v306 : BitVec 1 := Scalar.cmpi .eq c4_i32_253 c0_i32_254
  let c1_i32_255 : BitVec 32 := 1#32
  let v307 : BitVec 32 := Scalar.select v306 c1_i32_255 c4_i32_253
  let v308 : BitVec 32 := Scalar.remsi v305 v307
  let c0_i32_257 : BitVec 32 := 0#32
  let v310 : BitVec 1 := Scalar.cmpi .slt v308 c0_i32_257
  let c0_i32_258 : BitVec 32 := 0#32
  let v311 : BitVec 1 := Scalar.cmpi .slt v307 c0_i32_258
  let v312 : BitVec 1 := Scalar.xori v310 v311
  let c0_i32_256 : BitVec 32 := 0#32
  let v309 : BitVec 1 := Scalar.cmpi .ne v308 c0_i32_256
  let v313 : BitVec 1 := Scalar.andi v312 v309
  let v314 : BitVec 32 := Scalar.addi v308 v307
  let v315 : BitVec 32 := Scalar.select v313 v314 v308
  let c4096_i32_265 : BitVec 32 := 4096#32
  let v325 : BitVec 32 := Scalar.muli v315 c4096_i32_265
  let c1_i32_266 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v326 : BitVec 32 := Scalar.subi c1_i32_266 v2
  let c2048_i32_267 : BitVec 32 := 2048#32
  let v327 : BitVec 32 := Scalar.muli v326 c2048_i32_267
  let v328 : BitVec 32 := Scalar.addi v325 v327
  let v329 : BitVec 32 := Scalar.addi v328 c0_i32_268
  let v331 : Index := Scalar.indexCast v329
  ![0, v331.toNat]
def k0_dev10 (d0 : Dev nD) : Nat :=
  let c0_i32_295 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_294 : BitVec 32 := 16#32
  let v345 : BitVec 32 := Scalar.muli v2 c16_i32_294
  let v346 : BitVec 32 := Scalar.addi c0_i32_295 v345
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_296 : BitVec 32 := 4#32
  let v347 : BitVec 32 := Scalar.muli v5 c4_i32_296
  let v348 : BitVec 32 := Scalar.addi v346 v347
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_297 : BitVec 32 := 1#32
  let v349 : BitVec 32 := Scalar.muli v30 c1_i32_297
  let v350 : BitVec 32 := Scalar.addi v348 v349
  v350.toNat
def k0_dev11 (d0 : Dev nD) : Nat :=
  let c0_i32_311 : BitVec 32 := 0#32
  let c1_i32_17 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v33 : BitVec 32 := Scalar.subi c1_i32_17 v2
  let c16_i32_310 : BitVec 32 := 16#32
  let v359 : BitVec 32 := Scalar.muli v33 c16_i32_310
  let v360 : BitVec 32 := Scalar.addi c0_i32_311 v359
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_312 : BitVec 32 := 4#32
  let v361 : BitVec 32 := Scalar.muli v5 c4_i32_312
  let v362 : BitVec 32 := Scalar.addi v360 v361
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_313 : BitVec 32 := 1#32
  let v363 : BitVec 32 := Scalar.muli v8 c1_i32_313
  let v364 : BitVec 32 := Scalar.addi v362 v363
  v364.toNat
def k0_dev12 (d0 : Dev nD) : Nat :=
  let c0_i32_393 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_392 : BitVec 32 := 16#32
  let v452 : BitVec 32 := Scalar.muli v2 c16_i32_392
  let v453 : BitVec 32 := Scalar.addi c0_i32_393 v452
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_394 : BitVec 32 := 4#32
  let v454 : BitVec 32 := Scalar.muli v5 c4_i32_394
  let v455 : BitVec 32 := Scalar.addi v453 v454
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_395 : BitVec 32 := 1#32
  let v456 : BitVec 32 := Scalar.muli v30 c1_i32_395
  let v457 : BitVec 32 := Scalar.addi v455 v456
  v457.toNat
def k0_dev13 (d0 : Dev nD) : Nat :=
  let c0_i32_409 : BitVec 32 := 0#32
  let c1_i32_18 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v34 : BitVec 32 := Scalar.subi c1_i32_18 v2
  let c16_i32_408 : BitVec 32 := 16#32
  let v466 : BitVec 32 := Scalar.muli v34 c16_i32_408
  let v467 : BitVec 32 := Scalar.addi c0_i32_409 v466
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_410 : BitVec 32 := 4#32
  let v468 : BitVec 32 := Scalar.muli v5 c4_i32_410
  let v469 : BitVec 32 := Scalar.addi v467 v468
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_411 : BitVec 32 := 1#32
  let v470 : BitVec 32 := Scalar.muli v8 c1_i32_411
  let v471 : BitVec 32 := Scalar.addi v469 v470
  v471.toNat
def k0_dev14 (d0 : Dev nD) : Nat :=
  let c0_i32_492 : BitVec 32 := 0#32
  let c1_i32_19 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v35 : BitVec 32 := Scalar.subi c1_i32_19 v2
  let c16_i32_491 : BitVec 32 := 16#32
  let v559 : BitVec 32 := Scalar.muli v35 c16_i32_491
  let v560 : BitVec 32 := Scalar.addi c0_i32_492 v559
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_493 : BitVec 32 := 4#32
  let v561 : BitVec 32 := Scalar.muli v5 c4_i32_493
  let v562 : BitVec 32 := Scalar.addi v560 v561
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_494 : BitVec 32 := 1#32
  let v563 : BitVec 32 := Scalar.muli v8 c1_i32_494
  let v564 : BitVec 32 := Scalar.addi v562 v563
  v564.toNat
def k0_dev15 (d0 : Dev nD) : Nat :=
  let c0_i32_574 : BitVec 32 := 0#32
  let c1_i32_20 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v36 : BitVec 32 := Scalar.subi c1_i32_20 v2
  let c16_i32_573 : BitVec 32 := 16#32
  let v652 : BitVec 32 := Scalar.muli v36 c16_i32_573
  let v653 : BitVec 32 := Scalar.addi c0_i32_574 v652
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_575 : BitVec 32 := 4#32
  let v654 : BitVec 32 := Scalar.muli v5 c4_i32_575
  let v655 : BitVec 32 := Scalar.addi v653 v654
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_576 : BitVec 32 := 1#32
  let v656 : BitVec 32 := Scalar.muli v8 c1_i32_576
  let v657 : BitVec 32 := Scalar.addi v655 v656
  v657.toNat
abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S256x512 : Shape := ⟨2, ![256, 512]⟩
abbrev S512x16384 : Shape := ⟨2, ![512, 16384]⟩
abbrev S256x16384 : Shape := ⟨2, ![256, 16384]⟩
abbrev S_ : Shape := ⟨0, ![]⟩
abbrev S256 : Shape := ⟨1, ![256]⟩
abbrev S256x1 : Shape := ⟨2, ![256, 1]⟩
abbrev S1024x16384 : Shape := ⟨2, ![1024, 16384]⟩

abbrev nBuf : Space → Nat
  | .hbm => 105
  | .vmem => 0
  | .smem => 0
  | _ => 0

abbrev bufTy : (tb : Table) → Fin (tcTables nBuf tb) → BufTy
  | .hbm, ⟨0, _⟩ => ⟨S256x512, .bf16⟩
  | .hbm, ⟨1, _⟩ => ⟨S512x16384, .bf16⟩
  | .hbm, ⟨2, _⟩ => ⟨S256x512, .f32⟩
  | .hbm, ⟨3, _⟩ => ⟨S512x16384, .f32⟩
  | .hbm, ⟨4, _⟩ => ⟨S256x16384, .f32⟩
  | .hbm, ⟨5, _⟩ => ⟨S_, .f32⟩
  | .hbm, ⟨6, _⟩ => ⟨S256x16384, .f32⟩
  | .hbm, ⟨7, _⟩ => ⟨S256x16384, .f32⟩
  | .hbm, ⟨8, _⟩ => ⟨S256x16384, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S256x16384, .f32⟩
  | .hbm, ⟨13, _⟩ => ⟨S256x16384, .f32⟩
  | .hbm, ⟨14, _⟩ => ⟨S_, .f32⟩
  | .hbm, ⟨15, _⟩ => ⟨S256x16384, .f32⟩
  | .hbm, ⟨16, _⟩ => ⟨S256x16384, .f32⟩
  | .hbm, ⟨17, _⟩ => ⟨S_, .f32⟩
  | .hbm, ⟨18, _⟩ => ⟨S256x16384, .f32⟩
  | .hbm, ⟨19, _⟩ => ⟨S256x16384, .f32⟩
  | .hbm, ⟨20, _⟩ => ⟨S256x16384, .i32⟩
  | .hbm, ⟨21, _⟩ => ⟨S_, .i32⟩
  | .hbm, ⟨22, _⟩ => ⟨S256x16384, .i32⟩
  | .hbm, ⟨23, _⟩ => ⟨S256x16384, .i1⟩
  | .hbm, ⟨24, _⟩ => ⟨S_, .i32⟩
  | .hbm, ⟨25, _⟩ => ⟨S256x16384, .i32⟩
  | .hbm, ⟨26, _⟩ => ⟨S256x16384, .i1⟩
  | .hbm, ⟨27, _⟩ => ⟨S256x16384, .i1⟩
  | .hbm, ⟨28, _⟩ => ⟨S256x16384, .f32⟩
  | .hbm, ⟨29, _⟩ => ⟨S_, .f32⟩
  | .hbm, ⟨30, _⟩ => ⟨S256, .f32⟩
  | .hbm, ⟨31, _⟩ => ⟨S256x1, .f32⟩
  | .hbm, ⟨32, _⟩ => ⟨S256x16384, .f32⟩
  | .hbm, ⟨33, _⟩ => ⟨S256x16384, .f32⟩
  | .hbm, ⟨34, _⟩ => ⟨S256x16384, .f32⟩
  | .hbm, ⟨35, _⟩ => ⟨S_, .f32⟩
  | .hbm, ⟨36, _⟩ => ⟨S256, .f32⟩
  | .hbm, ⟨37, _⟩ => ⟨S256x1, .f32⟩
  | .hbm, ⟨38, _⟩ => ⟨S256x16384, .f32⟩
  | .hbm, ⟨39, _⟩ => ⟨S256x16384, .f32⟩
  | .hbm, ⟨40, _⟩ => ⟨S256x16384, .bf16⟩
  | .hbm, ⟨41, _⟩ => ⟨S256x16384, .i32⟩
  | .hbm, ⟨42, _⟩ => ⟨S_, .i32⟩
  | .hbm, ⟨43, _⟩ => ⟨S256x16384, .i32⟩
  | .hbm, ⟨44, _⟩ => ⟨S256x16384, .i1⟩
  | .hbm, ⟨45, _⟩ => ⟨S_, .i32⟩
  | .hbm, ⟨46, _⟩ => ⟨S256x16384, .i32⟩
  | .hbm, ⟨47, _⟩ => ⟨S256x16384, .i1⟩
  | .hbm, ⟨48, _⟩ => ⟨S256x16384, .i1⟩
  | .hbm, ⟨49, _⟩ => ⟨S256x16384, .f32⟩
  | .hbm, ⟨50, _⟩ => ⟨S_, .f32⟩
  | .hbm, ⟨51, _⟩ => ⟨S256, .f32⟩
  | .hbm, ⟨52, _⟩ => ⟨S256x1, .f32⟩
  | .hbm, ⟨53, _⟩ => ⟨S256x16384, .f32⟩
  | .hbm, ⟨54, _⟩ => ⟨S256x16384, .f32⟩
  | .hbm, ⟨55, _⟩ => ⟨S256x16384, .f32⟩
  | .hbm, ⟨56, _⟩ => ⟨S_, .f32⟩
  | .hbm, ⟨57, _⟩ => ⟨S256, .f32⟩
  | .hbm, ⟨58, _⟩ => ⟨S256x1, .f32⟩
  | .hbm, ⟨59, _⟩ => ⟨S256x16384, .f32⟩
  | .hbm, ⟨60, _⟩ => ⟨S256x16384, .f32⟩
  | .hbm, ⟨61, _⟩ => ⟨S256x16384, .bf16⟩
  | .hbm, ⟨62, _⟩ => ⟨S256x16384, .i32⟩
  | .hbm, ⟨63, _⟩ => ⟨S_, .i32⟩
  | .hbm, ⟨64, _⟩ => ⟨S256x16384, .i32⟩
  | .hbm, ⟨65, _⟩ => ⟨S256x16384, .i1⟩
  | .hbm, ⟨66, _⟩ => ⟨S_, .i32⟩
  | .hbm, ⟨67, _⟩ => ⟨S256x16384, .i32⟩
  | .hbm, ⟨68, _⟩ => ⟨S256x16384, .i1⟩
  | .hbm, ⟨69, _⟩ => ⟨S256x16384, .i1⟩
  | .hbm, ⟨70, _⟩ => ⟨S256x16384, .f32⟩
  | .hbm, ⟨71, _⟩ => ⟨S_, .f32⟩
  | .hbm, ⟨72, _⟩ => ⟨S256, .f32⟩
  | .hbm, ⟨73, _⟩ => ⟨S256x1, .f32⟩
  | .hbm, ⟨74, _⟩ => ⟨S256x16384, .f32⟩
  | .hbm, ⟨75, _⟩ => ⟨S256x16384, .f32⟩
  | .hbm, ⟨76, _⟩ => ⟨S256x16384, .f32⟩
  | .hbm, ⟨77, _⟩ => ⟨S_, .f32⟩
  | .hbm, ⟨78, _⟩ => ⟨S256, .f32⟩
  | .hbm, ⟨79, _⟩ => ⟨S256x1, .f32⟩
  | .hbm, ⟨80, _⟩ => ⟨S256x16384, .f32⟩
  | .hbm, ⟨81, _⟩ => ⟨S256x16384, .f32⟩
  | .hbm, ⟨82, _⟩ => ⟨S256x16384, .bf16⟩
  | .hbm, ⟨83, _⟩ => ⟨S256x16384, .i32⟩
  | .hbm, ⟨84, _⟩ => ⟨S_, .i32⟩
  | .hbm, ⟨85, _⟩ => ⟨S256x16384, .i32⟩
  | .hbm, ⟨86, _⟩ => ⟨S256x16384, .i1⟩
  | .hbm, ⟨87, _⟩ => ⟨S_, .i32⟩
  | .hbm, ⟨88, _⟩ => ⟨S256x16384, .i32⟩
  | .hbm, ⟨89, _⟩ => ⟨S256x16384, .i1⟩
  | .hbm, ⟨90, _⟩ => ⟨S256x16384, .i1⟩
  | .hbm, ⟨91, _⟩ => ⟨S256x16384, .f32⟩
  | .hbm, ⟨92, _⟩ => ⟨S_, .f32⟩
  | .hbm, ⟨93, _⟩ => ⟨S256, .f32⟩
  | .hbm, ⟨94, _⟩ => ⟨S256x1, .f32⟩
  | .hbm, ⟨95, _⟩ => ⟨S256x16384, .f32⟩
  | .hbm, ⟨96, _⟩ => ⟨S256x16384, .f32⟩
  | .hbm, ⟨97, _⟩ => ⟨S256x16384, .f32⟩
  | .hbm, ⟨98, _⟩ => ⟨S_, .f32⟩
  | .hbm, ⟨99, _⟩ => ⟨S256, .f32⟩
  | .hbm, ⟨100, _⟩ => ⟨S256x1, .f32⟩
  | .hbm, ⟨101, _⟩ => ⟨S256x16384, .f32⟩
  | .hbm, ⟨102, _⟩ => ⟨S256x16384, .f32⟩
  | .hbm, ⟨103, _⟩ => ⟨S256x16384, .bf16⟩
  | .hbm, ⟨104, _⟩ => ⟨S1024x16384, .bf16⟩
  | _, _ => ⟨S256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_cst_1 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_6 : Ref sig .tc := ⟨.hbm, 42, rfl⟩
abbrev main_v27 : Ref sig .tc := ⟨.hbm, 43, rfl⟩
abbrev main_v28 : Ref sig .tc := ⟨.hbm, 44, rfl⟩
abbrev main_c_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_10 : Ref sig .tc := ⟨.hbm, 63, rfl⟩
abbrev main_v44 : Ref sig .tc := ⟨.hbm, 64, rfl⟩
abbrev main_v45 : Ref sig .tc := ⟨.hbm, 65, rfl⟩
abbrev main_c_11 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_12 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_13 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_14 : Ref sig .tc := ⟨.hbm, 84, rfl⟩
abbrev main_v61 : Ref sig .tc := ⟨.hbm, 85, rfl⟩
abbrev main_v62 : Ref sig .tc := ⟨.hbm, 86, rfl⟩
abbrev main_c_15 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_16 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_17 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩

abbrev nD : Nat := 1
abbrev τ : Topo := Topo.v7x

variable {F : FTy → Type} [FloatOps F]
-- ==== Proof.Common.lean ====
/-
# `Common`: the protocol of the all-gather softmax kernel

The devices of the mesh, the landing slots of the two communication buffers, the semaphore cells, what each landing
hands over, and what each device owes, in the order it pays.

A device `c` sits at `(x, y, z) = (c / 16, c / 4 % 4, c % 4)`. It talks to `nxt c` and `prv c`, one step up and down the
`z` ring, and to `flip c`, the device at the other `x`. Every landing slot is written exactly once, so one function per
device (`zBuf`, `xBuf`) says what a slot holds once it has been written.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option synthInstance.maxSize 4096

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds and the kernel's (duties `Fin 3`) -/

/-- The rounds of the kernel's own cells, with three duties; -/
abbrev UB : Type := URounds (GSem nD τ sig) (Fin 3)
/-- together with the pipeline's. -/
abbrev UU : Type := UR sig nD τ × UB

local notation "𝕄" => MT nD τ sig Unit (Elt F) ℕ UU ℕ

/-- The pipeline's part of the resources; -/
abbrev EP : Emb (UR sig nD τ) (MT nD τ sig Unit (Elt F) ℕ UU ℕ) := embL
/-- the kernel's own. -/
abbrev ER : Emb UB (MT nD τ sig Unit (Elt F) ℕ UU ℕ) := embR

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## The devices -/

set_option backward.proofsInPublic true in
/-- One step up the `z` ring. -/
def nxt (c : Dev nD) : Dev nD := ⟨c.val / 4 * 4 + (c.val % 4 + 1) % 4, by show _ < 32; have : c.val < 32 := c.isLt; omega⟩
set_option backward.proofsInPublic true in
/-- One step down the `z` ring. -/
def prv (c : Dev nD) : Dev nD := ⟨c.val / 4 * 4 + (c.val % 4 + 3) % 4, by show _ < 32; have : c.val < 32 := c.isLt; omega⟩
set_option backward.proofsInPublic true in
/-- The device at the other `x`. -/
def flip (c : Dev nD) : Dev nD := ⟨(c.val + 16) % 32, Nat.mod_lt _ (by decide)⟩

/-- A step down undoes a step up; -/
theorem prv_nxt (c : Dev nD) : prv (nxt c) = c := by revert c; decide
/-- a step up undoes a step down; -/
theorem nxt_prv (c : Dev nD) : nxt (prv c) = c := by revert c; decide
/-- going across twice changes nothing. -/
theorem flip_flip (c : Dev nD) : flip (flip c) = c := by revert c; decide

/-- `nxt`, `prv` and `flip` as bijections. -/
def eNxt : Dev nD ≃ Dev nD := ⟨nxt, prv, prv_nxt, nxt_prv⟩
def ePrv : Dev nD ≃ Dev nD := ⟨prv, nxt, nxt_prv, prv_nxt⟩
def eFlip : Dev nD ≃ Dev nD := ⟨flip, flip, flip_flip, flip_flip⟩

/-- The device `h` steps down the ring from `c`: the one whose codes land in slot `h` of `c`. -/
def zb : ℕ → Dev nD → Dev nD
  | 0, c => c
  | h + 1, c => zb h (prv c)

/-- One step more, from one device further. -/
theorem zb_nxt (h : ℕ) (c : Dev nD) : zb (h + 1) (nxt c) = zb h c := by show zb h (prv (nxt c)) = _; rw [prv_nxt]

/-- The kernel's device words: the barrier signals go to `prv`, `nxt` and `flip`, -/
theorem dev1_eq : ∀ c : Dev nD, (⟨k0_dev1 c, k0_dev1_lt c⟩ : Dev nD) = prv c := by decide +kernel
theorem dev2_eq : ∀ c : Dev nD, (⟨k0_dev2 c, k0_dev2_lt c⟩ : Dev nD) = nxt c := by decide +kernel
theorem dev3_eq : ∀ c : Dev nD, (⟨k0_dev3 c, k0_dev3_lt c⟩ : Dev nD) = flip c := by decide +kernel
/-- the ring transfers go to `nxt`, -/
theorem dev4_eq : ∀ c : Dev nD, (⟨k0_dev4 c, k0_dev4_lt c⟩ : Dev nD) = nxt c := by decide +kernel
theorem dev5_eq : ∀ c : Dev nD, (⟨k0_dev5 c, k0_dev5_lt c⟩ : Dev nD) = nxt c := by decide +kernel
theorem dev6_eq : ∀ c : Dev nD, (⟨k0_dev6 c, k0_dev6_lt c⟩ : Dev nD) = nxt c := by decide +kernel
theorem dev8_eq : ∀ c : Dev nD, (⟨k0_dev8 c, k0_dev8_lt c⟩ : Dev nD) = nxt c := by decide +kernel
theorem dev10_eq : ∀ c : Dev nD, (⟨k0_dev10 c, k0_dev10_lt c⟩ : Dev nD) = nxt c := by decide +kernel
theorem dev12_eq : ∀ c : Dev nD, (⟨k0_dev12 c, k0_dev12_lt c⟩ : Dev nD) = nxt c := by decide +kernel
/-- and the transfers across `x` to `flip`. -/
theorem dev7_eq : ∀ c : Dev nD, (⟨k0_dev7 c, k0_dev7_lt c⟩ : Dev nD) = flip c := by decide +kernel
theorem dev9_eq : ∀ c : Dev nD, (⟨k0_dev9 c, k0_dev9_lt c⟩ : Dev nD) = flip c := by decide +kernel
theorem dev11_eq : ∀ c : Dev nD, (⟨k0_dev11 c, k0_dev11_lt c⟩ : Dev nD) = flip c := by decide +kernel
theorem dev13_eq : ∀ c : Dev nD, (⟨k0_dev13 c, k0_dev13_lt c⟩ : Dev nD) = flip c := by decide +kernel
theorem dev14_eq : ∀ c : Dev nD, (⟨k0_dev14 c, k0_dev14_lt c⟩ : Dev nD) = flip c := by decide +kernel
theorem dev15_eq : ∀ c : Dev nD, (⟨k0_dev15 c, k0_dev15_lt c⟩ : Dev nD) = flip c := by decide +kernel

/-! ## The semaphores -/

/-- A DMA semaphore of the kernel's: (which array — ring send, ring receive, cross send, cross receive —, hop, piece). -/
abbrev J : Type := Fin 4 × Fin 3 × Fin 2

/-- The runtime's barrier semaphore. -/
abbrev barS : Sem sig := (SemArray.scalar (sig.barrier 0 rfl) : Sems sig S_).sem
set_option backward.proofsInPublic true in
/-- The DMA semaphore of each index: six to an array, after the three of the staging buffers. -/
def dsem (j : J) : DmaSem sig := ⟨3 + (6 * j.1.val + (2 * j.2.1.val + j.2.2.val)), by
  show _ < 27; have := j.1.isLt; have := j.2.1.isLt; have := j.2.2.isLt; omega⟩

/-- The barrier's cell of a device; -/
abbrev barCell (c : Dev nD) : GSem nD τ sig := ((c : Thread nD τ), .reg barS)
/-- the cell of one of its transfer semaphores; -/
abbrev dcell (c : Dev nD) (j : J) : GSem nD τ sig := ((c : Thread nD τ), .dma (dsem j))

/-- The kernel's own semaphores, as the launch indexes them; -/
abbrev osem : J → SemLoc sig := fun j => .dma (dsem j)
/-- those and the barrier, as this proof indexes them. -/
abbrev csem : Option J → SemLoc sig := fun | none => .reg barS | some j => .dma (dsem j)
/-- the cell of either kind, by its index. -/
abbrev kcell (ck : Dev nD × Option J) : GSem nD τ sig := ((ck.1 : Thread nD τ), csem ck.2)

/-- Reading the index back off a semaphore's number. -/
def dec (n : ℕ) : J := (⟨(n - 3) / 6 % 4, Nat.mod_lt _ (by decide)⟩, ⟨(n - 3) % 6 / 2 % 3, Nat.mod_lt _ (by decide)⟩, ⟨(n - 3) % 2, Nat.mod_lt _ (by decide)⟩)
/-- A transfer semaphore's index is read back from its number, -/
theorem dec_dsem : ∀ j : J, dec (dsem j).val = j := by decide +kernel
/-- so no two of them are the same. -/
theorem dsem_inj : Function.Injective dsem := fun a b h => by rw [← dec_dsem a, h, dec_dsem]

/-! ## The landing slots -/

/-- The two receive buffers, the two staged inputs and the staged output. -/
abbrev zM : Memref sig .tc .vmem S4x2x256x1024 .i8 := Memref.whole cc0_scratch0
abbrev xM : Memref sig .tc .vmem S3x2x256x1024 .i8 := Memref.whole cc0_scratch1
abbrev aM : Memref sig .tc .vmem S256x512 .bf16 := Memref.whole cc0_stg0_0
abbrev wM : Memref sig .tc .vmem S512x4096 .bf16 := Memref.whole cc0_stg1_0
abbrev oM : Memref sig .tc .vmem S256x16384 .bf16 := Memref.whole cc0_stg2_0

/-- Every slot lies in its buffer. -/
theorem zInb : ∀ (h : Fin 4) (p : Fin 2) (a : Fin S4x2x256x1024.rank), (![h.val, p.val, 0, 0] : Fin 4 → ℕ) a + S1x1x256x1024.size a ≤ S4x2x256x1024.size a := by decide
theorem xInb : ∀ (h : Fin 3) (p : Fin 2) (a : Fin S3x2x256x1024.rank), (![h.val, p.val, 0, 0] : Fin 4 → ℕ) a + S1x1x256x1024.size a ≤ S3x2x256x1024.size a := by decide
theorem sInb : ∀ (h : Fin 3) (p : Fin 2) (a : Fin S3x2.rank), (![h.val, p.val] : Fin 2 → ℕ) a + S1x1.size a ≤ S3x2.size a := by decide

/-- The ring buffer's slot for hop `h`, piece `p`; the cross buffer's likewise. -/
abbrev zRect (h : Fin 4) (p : Fin 2) : Rect S4x2x256x1024 := Rect.unit (s := S4x2x256x1024) ![h.val, p.val, 0, 0] S1x1x256x1024.size (zInb h p)
abbrev xRect (h : Fin 3) (p : Fin 2) : Rect S3x2x256x1024 := Rect.unit (s := S3x2x256x1024) ![h.val, p.val, 0, 0] S1x1x256x1024.size (xInb h p)
/-- The elements of a slot of the ring's buffer, and of the cross buffer. -/
def zSet (h : Fin 4) (p : Fin 2) : Finset S4x2x256x1024.Idx := (zRect h p).set
def xSet (h : Fin 3) (p : Fin 2) : Finset S3x2x256x1024.Idx := (xRect h p).set

/-- An element of a slot has the slot's step and half as its first coordinates; -/
theorem mem_zSet {h : Fin 4} {p : Fin 2} {i : S4x2x256x1024.Idx} (hi : i ∈ zSet h p) : i 0 = h ∧ i 1 = p := by
  unfold zSet at hi
  rw [Rect.mem_set_unit] at hi
  have h0 := hi 0; have h1 := hi 1
  change h.val ≤ (i 0).val ∧ (i 0).val < h.val + 1 at h0
  change p.val ≤ (i 1).val ∧ (i 1).val < p.val + 1 at h1
  exact ⟨Fin.ext (by omega), Fin.ext (by omega)⟩
/-- the same of the cross buffer. -/
theorem mem_xSet {h : Fin 3} {p : Fin 2} {i : S3x2x256x1024.Idx} (hi : i ∈ xSet h p) : i 0 = h ∧ i 1 = p := by
  unfold xSet at hi
  rw [Rect.mem_set_unit] at hi
  have h0 := hi 0; have h1 := hi 1
  change h.val ≤ (i 0).val ∧ (i 0).val < h.val + 1 at h0
  change p.val ≤ (i 1).val ∧ (i 1).val < p.val + 1 at h1
  exact ⟨Fin.ext (by omega), Fin.ext (by omega)⟩

/-- The credit of one landing. -/
abbrev N : ℕ := ((zM.slice (zRect 0 0) (fun _ => rfl)).squeeze S256x1024 squeezes_S1x1x256x1024_S256x1024).view.dmaCredit
/-- A slot's transfer is not empty. -/
theorem N_pos : 0 < N := View.dmaCredit_pos _ (by decide)

/-! ## Contents -/

/-- Device `c`'s staged `x` and its staged block of `W`. -/
def xin (c : Dev nD) : (cc0_stg0_0 : Ref sig .tc).ty.Contents (Elt F) :=
  (win0_0.blk (0 : Fin 1)).view.read (Elt F) ((s₀ m ρ).mem ((c : Thread nD τ).loc main_arg0))
def win (c : Dev nD) : (cc0_stg1_0 : Ref sig .tc).ty.Contents (Elt F) :=
  (win0_1.blk (0 : Fin 1)).view.read (Elt F) ((s₀ m ρ).mem ((c : Thread nD τ).loc main_arg1))

/-- Piece `p` of the columns of `W` that device `c` computes the logits of and sends. -/
def wPc (c : Dev nD) (p : Fin 2) : Vec F S512x1024 .bf16 :=
  wM.view.readAt (Elt F) (Rect.unit (s := S512x4096) (k0_off1 c (BitVec.ofNat 32 (1024 * p.val))) S512x1024.size (k0_off1_inb c p)).toLoadRect (win m ρ c)
/-- The columns of the other half of its block. -/
def wOther (c : Dev nD) : Vec F S512x2048 .bf16 :=
  wM.view.readAt (Elt F) (Rect.unit (s := S512x4096) (k0_off2 c) S512x2048.size (k0_off2_inb c)).toLoadRect (win m ρ c)

/-- The logits of piece `p`, and of the other half. -/
def lgPc (c : Dev nD) (p : Fin 2) : FVec F S256x1024 .f32 := k0_pay3 (xin m ρ c) (wPc m ρ c p)
def lgOther (c : Dev nD) : FVec F S256x2048 .f32 := k0_pay7 (k0_pay2 (xin m ρ c)) (wOther m ρ c)

/-- The int8 codes device `c` sends for piece `p`. -/
def code (c : Dev nD) (p : Fin 2) : Vec F S1x1x256x1024 .i8 := k0_pay4 (lgPc m ρ c p)

/-- The position within a slot of an index of the ring buffer, of the cross buffer, -/
def zPos (i : S4x2x256x1024.Idx) : S1x1x256x1024.Idx
  | 0 => (0 : Fin 1) | 1 => (0 : Fin 1) | 2 => i 2 | 3 => i 3
def xPos (i : S3x2x256x1024.Idx) : S1x1x256x1024.Idx
  | 0 => (0 : Fin 1) | 1 => (0 : Fin 1) | 2 => i 2 | 3 => i 3

/-- What device `c`'s ring buffer holds where it has been written: in slot `h` the codes of the device `h` steps down; -/
def zBuf (c : Dev nD) : Buf (Elt F) ((c : Thread nD τ).loc cc0_scratch0) := fun i : S4x2x256x1024.Idx => code m ρ (zb (i 0).val c) (i 1) (zPos i)
/-- and its cross buffer: in slot `h` the codes `flip c` received at hop `h + 1`. -/
def xBuf (c : Dev nD) : Buf (Elt F) ((c : Thread nD τ).loc cc0_scratch1) := fun i : S3x2x256x1024.Idx => code m ρ (zb ((i 0).val + 1) (flip c)) (i 1) (xPos i)

/-- Slot `(h, p)` of the ring buffer written, at share `q`; at unknown contents; the cross buffer's likewise. -/
def zPts (c : Dev nD) (h : Fin 4) (p : Fin 2) (q : PosShare TreeShare) : sProp 𝕄 := ((c : Thread nD τ).loc cc0_scratch0) ↦[zSet h p]{q} zBuf m ρ c
/-- The slot with unknown contents; the same two for the cross buffer. -/
def zAny (c : Dev nD) (h : Fin 4) (p : Fin 2) : sProp 𝕄 := iprop(∃ f, ((c : Thread nD τ).loc cc0_scratch0) ↦[zSet h p]{fullShare} f)
def xPts (c : Dev nD) (h : Fin 3) (p : Fin 2) (q : PosShare TreeShare) : sProp 𝕄 := ((c : Thread nD τ).loc cc0_scratch1) ↦[xSet h p]{q} xBuf m ρ c
def xAny (c : Dev nD) (h : Fin 3) (p : Fin 2) : sProp 𝕄 := iprop(∃ f, ((c : Thread nD τ).loc cc0_scratch1) ↦[xSet h p]{fullShare} f)

omit [FloatOps F] in
/-- All four may be handed over through a cell. -/
instance zAny_storable (c : Dev nD) (h p) : BI.Storable (upEmb : UEmb _ 𝕄) (zAny (F := F) c h p) := by unfold zAny; infer_instance
omit [FloatOps F] in
instance xAny_storable (c : Dev nD) (h p) : BI.Storable (upEmb : UEmb _ 𝕄) (xAny (F := F) c h p) := by unfold xAny; infer_instance
instance zPts_storable (c : Dev nD) (h p q) : BI.Storable (upEmb : UEmb _ 𝕄) (zPts m ρ c h p q) := by unfold zPts; infer_instance
instance xPts_storable (c : Dev nD) (h p q) : BI.Storable (upEmb : UEmb _ 𝕄) (xPts m ρ c h p q) := by unfold xPts; infer_instance

/-! ## The shares: what a transfer along the ring borrows of a slot, what one across `x` borrows, what stays -/

/-- The shares of a slot: the ring's copy, the copy across `x`, the device's own loads. -/
abbrev qz : PosShare TreeShare := fullShare.left
abbrev qx : PosShare TreeShare := fullShare.right.left
abbrev ql : PosShare TreeShare := fullShare.right.right

/-- A written slot held whole is its three shares. -/
theorem zPts_split (c : Dev nD) (h p) : (zPts m ρ c h p fullShare : sProp 𝕄) ⊣⊢ iprop(zPts m ρ c h p qz ∗ zPts m ρ c h p qx ∗ zPts m ρ c h p ql) := by
  have h1 : (zPts m ρ c h p fullShare : sProp 𝕄) ⊣⊢ iprop(zPts m ρ c h p qz ∗ zPts m ρ c h p fullShare.right) :=
    pointsTo_share (PosShare.mem_left_op_right fullShare)
  have h2 : (zPts m ρ c h p fullShare.right : sProp 𝕄) ⊣⊢ iprop(zPts m ρ c h p qx ∗ zPts m ρ c h p ql) :=
    pointsTo_share (PosShare.mem_left_op_right fullShare.right)
  exact ⟨h1.1.trans (sep_mono_right h2.1), (sep_mono_right h2.2).trans h1.2⟩

/-! ## The schedule -/

/-- What `nxt c`'s signal hands `c`: the slots of `nxt c`'s ring buffer that `c`'s transfers land in. -/
def barPayZ (c : Dev nD) : sProp 𝕄 := bigSep Finset.univ fun hp : Fin 3 × Fin 2 => zAny (nxt c) hp.1.succ hp.2
/-- What `flip c`'s hands it: `flip c`'s cross buffer's slots. -/
def barPayX (c : Dev nD) : sProp 𝕄 := bigSep Finset.univ fun hp : Fin 3 × Fin 2 => xAny (flip c) hp.1 hp.2
/-- What a completed transfer hands the device whose semaphore it raises: a send its share of the source slot back, a
    receive the landing slot written. -/
def dmaPay (c : Dev nD) : J → sProp 𝕄
  | (0, h, p) => zPts m ρ c h.castSucc p qz
  | (1, h, p) => zPts m ρ c h.succ p fullShare
  | (2, h, p) => zPts m ρ c h.succ p qx
  | (3, h, p) => xPts m ρ c h p fullShare

/-- What a transfer hands over may be handed over through a cell, -/
instance dmaPay_storable (c : Dev nD) (j : J) : BI.Storable (upEmb : UEmb _ 𝕄) (dmaPay m ρ c j) := by
  obtain ⟨k, h, p⟩ := j
  fin_cases k <;> (unfold dmaPay; infer_instance)

/-- One round: a barrier cell has three duties of one unit (from `nxt`, from `prv`, from `flip`), a DMA cell of the
    kernel's one duty of a landing's credit. -/
def kRd : Rounds.Schedule (GSem nD τ sig) (Fin 3) 𝕄 where
  duties g r := if r = 0 ∧ g.1.2 = .tc then (match g.2 with | .reg _ => Finset.univ | .dma q => if 3 ≤ q.val then {0} else ∅) else ∅
  unitless _ := False
  amount g _ _ := match g.2 with | .reg _ => 1 | .dma _ => N
  payload g _ d := match g.2 with
    | .reg _ => if d = 0 then barPayZ g.1.1 else if d = 1 then iprop(emp) else barPayX g.1.1
    | .dma q => dmaPay m ρ g.1.1 (dec q.val)
  amount_pos g _ _ _ := by
    rcases g.2 with s | s
    · exact Nat.one_pos
    · exact N_pos

/-- and so may every payload of the schedule. -/
instance kRd_storable (g : GSem nD τ sig) (r : ℕ) (d : Fin 3) : BI.Storable (upEmb : UEmb _ 𝕄) ((kRd (F := F) m ρ).payload g r d) := by
  obtain ⟨c, s | s⟩ := g
  · show BI.Storable upEmb (if d = 0 then barPayZ c.1 else if d = 1 then iprop(emp) else barPayX c.1)
    unfold barPayZ barPayX
    (repeat' split) <;> infer_instance
  · show BI.Storable upEmb (dmaPay m ρ c.1 (dec s.val)); infer_instance

section Sched
variable (c : Dev nD) (j : J)

/-- The schedule's tables, read at a barrier cell and at a transfer's cell: duties, amounts, totals, payloads. -/
theorem duties_bar : (kRd m ρ).duties (barCell c) 0 = Finset.univ := by dsimp only [kRd]; exact if_pos ⟨rfl, rfl⟩
theorem duties_dma : (kRd m ρ).duties (dcell c j) 0 = {0} := by
  dsimp only [kRd]; rw [if_pos ⟨rfl, rfl⟩]; exact if_pos (Nat.le_add_right 3 _)
theorem duties_later (g : GSem nD τ sig) : ∀ r, 1 ≤ r → (kRd m ρ).duties g r = ∅ := fun r hr => by dsimp only [kRd]; exact if_neg fun h => by omega
theorem amount_bar (d) : (kRd m ρ).amount (barCell c) 0 d = 1 := rfl
theorem amount_dma (d) : (kRd m ρ).amount (dcell c j) 0 d = N := rfl
theorem expect_bar : (kRd m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_dma : (kRd m ρ).expect (dcell c j) 0 = N := by
  unfold Schedule.expect Schedule.amountOf; rw [duties_dma, Finset.sum_singleton, amount_dma]
theorem payload_bar0 : (kRd m ρ).payload (barCell c) 0 0 = barPayZ c := rfl
theorem payload_bar1 : (kRd m ρ).payload (barCell c) 0 1 = iprop(emp) := rfl
theorem payload_bar2 : (kRd m ρ).payload (barCell c) 0 2 = barPayX c := rfl
theorem payload_dma (d) : (kRd m ρ).payload (dcell c j) 0 d = dmaPay m ρ c j := congrArg (dmaPay m ρ c) (dec_dsem j)

/-- The whole round of a barrier cell: the slots of `nxt c`, nothing, the slots of `flip c`. -/
theorem rest_bar : bigSep ((kRd m ρ).duties (barCell c) 0 \ ∅) (fun d => (kRd m ρ).payload (barCell c) 0 d) = iprop(barPayZ c ∗ emp ∗ barPayX c) := by
  rw [Finset.sdiff_empty, duties_bar, bigSep_univ_eq_bigSepL [0, 1, 2] (by decide) (by decide)]
  rfl
theorem rest_dma : bigSep ((kRd m ρ).duties (dcell c j) 0 \ ∅) (fun d => (kRd m ρ).payload (dcell c j) 0 d) = dmaPay m ρ c j := by
  rw [Finset.sdiff_empty, duties_dma, bigSep_singleton, payload_dma]
end Sched

/-! ## What each device owes, in the order it pays; the levels -/

/-- A payment: to which device, onto which semaphore, how much. -/
abbrev Pay : Type := (Dev nD ≃ Dev nD) × SemLoc sig × ℕ

/-- The payment of a copy along the ring; of a copy across `x`. -/
abbrev payZ (h : Fin 3) (p : Fin 2) : Pay := (eNxt, .dma (dsem (1, h, p)), N)
abbrev payX (h : Fin 3) (p : Fin 2) : Pay := (eFlip, .dma (dsem (3, h, p)), N)

/-- The payments after the three barrier signals, in program order. -/
abbrev payD : List Pay := [payZ 0 0, payZ 0 1, payZ 1 0, payX 0 0, payZ 1 1, payX 0 1, payZ 2 0, payX 1 0, payZ 2 1, payX 1 1, payX 2 0, payX 2 1]
/-- Everything that a device pays, in the order of its body. -/
abbrev payAll : List Pay := (ePrv, .reg barS, 1) :: (eNxt, .reg barS, 1) :: (eFlip, .reg barS, 1) :: payD

/-- What device `c` owes while the payments `l` are outstanding. -/
def owed (c : Dev nD) : List Pay → CellTallies nD τ sig Unit
  | [] => 0
  | p :: l => owed c l + tallyAt (((p.1 c : Dev nD) : Thread nD τ), p.2.1) () p.2.2

/-- What a device owes at the start. -/
def O₀ (c : Dev nD) : CellTallies nD τ sig Unit := owed c payAll

/-- Every core's semaphores carry one tally. -/
def L (g : GSem nD τ sig) : Finset Unit := if g.1.2 = .tc then {()} else ∅
/-- The level of a semaphore: staging and send semaphores 0, the barrier 1, then the receives in the order in which a
    device waits for them. -/
def lvS : SemLoc sig → ℕ
  | .reg _ => 1
  | .dma q => if 9 ≤ q.val ∧ q.val < 15 then 2 + 2 * (q.val - 9) else if 21 ≤ q.val then 3 + 2 * (q.val - 21) else 0
/-- The level of a cell is its semaphore's. -/
def lv (g : GSem nD τ sig) (_ : Unit) : ℕ := lvS g.2

/-- No other thread's semaphores carry one; -/
theorem L_of_ne (g : GSem nD τ sig) (h : g.1.2 ≠ .tc) : L g = ∅ := if_neg h
/-- the core's all do. -/
theorem L_tc (c : Dev nD) (sm : SemLoc sig) : L ((c : Thread nD τ), sm) = {()} := if_pos rfl

/-- A cell that is owed something is the cell of some outstanding payment. -/
theorem owed_pos {c : Dev nD} {g : GSem nD τ sig} {u : Unit} : ∀ {l : List Pay}, 0 < owed c l g u → ∃ p ∈ l, g = (((p.1 c : Dev nD) : Thread nD τ), p.2.1)
  | [], h => absurd h (Nat.lt_irrefl 0)
  | p :: l, h => by
    unfold owed at h
    rw [Pi.add_apply, Finsupp.add_apply, tallyAt_apply] at h
    by_cases hg : g = (((p.1 c : Dev nD) : Thread nD τ), p.2.1) ∧ u = ()
    · exact ⟨p, List.mem_cons_self, hg.1⟩
    · rw [if_neg hg, Nat.add_zero] at h
      obtain ⟨p', hp', h'⟩ := owed_pos h
      exact ⟨p', List.mem_cons_of_mem _ hp', h'⟩

omit [FloatOps F] in
/-- A device may wait on a semaphore that lies below every payment it still owes. -/
theorem mayWait (c : Dev nD) (sm : SemLoc sig) (l : List Pay) (h : ∀ p ∈ l, lvS sm < lvS p.2.1) :
    (levAts L lv : sProp 𝕄) ⊢ MayWait (c : Thread nD τ) sm () (owed c l) :=
  MayOwe.of_cut (L := L) (lev := lv) (lvS sm) (fun p hp => by rw [Finset.mem_singleton.mp hp, L_tc]; exact Finset.mem_singleton_self _)
    (fun g u hg => by obtain ⟨p, -, rfl⟩ := owed_pos hg; rw [L_tc]; exact Finset.mem_singleton_self _)
    (fun p hp => by rw [Finset.mem_singleton.mp hp]; exact le_rfl)
    (fun g u hg => by obtain ⟨p, hp, rfl⟩ := owed_pos hg; exact h p hp)

/-! ## The persistent facts: every cell's invariant, every cell at round 0, the levels -/

/-- The facts that every device holds of every cell: its invariant, that its first round is reached, and the levels. -/
def recs (K : Dev nD × Option J → ℕ) : sProp 𝕄 :=
  iprop((bigSep Finset.univ fun ck : Dev nD × Option J => cellInv ER (kRd m ρ) (K ck) (kcell ck))
    ∗ (bigSep Finset.univ fun ck : Dev nD × Option J => reached ER (kcell ck) 0) ∗ levAts L lv)

/-- They may be used any number of times. -/
instance recs_persistent (K : Dev nD × Option J → ℕ) : BI.Persistent (recs m ρ K) := by unfold recs; infer_instance

variable (K : Dev nD × Option J → ℕ)

/-- A cell's invariant is among them; -/
theorem recs_inv (ck : Dev nD × Option J) : recs m ρ K ⊢ cellInv ER (kRd m ρ) (K ck) (kcell ck) := by
  have h : (bigSep Finset.univ fun ck : Dev nD × Option J => (cellInv ER (kRd m ρ) (K ck) (kcell ck) : sProp 𝕄)) ⊢ cellInv ER (kRd m ρ) (K ck) (kcell ck) :=
    bigSep_elim (Finset.mem_univ ck)
  unfold recs; iintro ⟨H, -⟩; iapply h; iexact H
/-- so is that its first round is reached; -/
theorem recs_reached (ck : Dev nD × Option J) : recs m ρ K ⊢ reached ER (kcell ck) 0 := by
  have h : (bigSep Finset.univ fun ck : Dev nD × Option J => (reached ER (kcell ck) 0 : sProp 𝕄)) ⊢ reached ER (kcell ck) 0 := bigSep_elim (Finset.mem_univ ck)
  unfold recs; iintro ⟨-, H, -⟩; iapply h; iexact H
/-- and a wait is allowed on a semaphore below everything that is still owed. -/
theorem recs_mayWait (c : Dev nD) (sm : SemLoc sig) (l : List Pay) (h : ∀ p ∈ l, lvS sm < lvS p.2.1) :
    recs m ρ K ⊢ MayWait (c : Thread nD τ) sm () (owed c l) := by
  unfold recs; iintro ⟨-, -, H⟩; iapply (mayWait c sm l h); iexact H

end Cert.KProof

end
-- ==== Proof.Effects.lean ====
/-
# `Effects`: one rule per kind of effect of the kernel's body

A transfer along the ring, a transfer across `x`, a wait on one of the kernel's DMA semaphores, a load of a written
slot, the store of a piece's codes: each stated once, for every hop and piece.
-/
module

public import proofs.«01_k».proof.Proof.Common

@[expose] public section

set_option synthInstance.maxSize 4096

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Option J → ℕ)

/-- No loop of the kernel needs a measure. -/
abbrev 𝒱₀ : Variants := Variants.none

/-! ## Reading and writing the slots -/

/-- At position `k` of its slot `(h, p)` the ring buffer holds code `k` of the device `h` steps down. -/
theorem zBuf_emb (c : Dev nD) (h : Fin 4) (p : Fin 2) (k : S1x1x256x1024.Idx) : zBuf m ρ c ((zRect h p).emb k) = code m ρ (zb h.val c) p k := by
  have h0 : ((zRect h p).emb k) 0 = h := Fin.ext (by
    show h.val + 1 * (k 0).val = h.val; have : (k 0).val < 1 := (k 0).isLt; omega)
  have h1 : ((zRect h p).emb k) 1 = p := Fin.ext (by
    show p.val + 1 * (k 1).val = p.val; have : (k 1).val < 1 := (k 1).isLt; omega)
  have h2 : zPos ((zRect h p).emb k) = k := funext fun a => Fin.ext (by
    match a with
    | 0 => show 0 = (k 0).val; have : (k 0).val < 1 := (k 0).isLt; omega
    | 1 => show 0 = (k 1).val; have : (k 1).val < 1 := (k 1).isLt; omega
    | 2 => show 0 + 1 * (k 2).val = (k 2).val; omega
    | 3 => show 0 + 1 * (k 3).val = (k 3).val; omega)
  unfold zBuf; rw [h0, h1, h2]

/-- At position `k` of its slot `(h, p)` the cross buffer holds code `k` of the device `h + 1` steps down from `flip c`. -/
theorem xBuf_emb (c : Dev nD) (h : Fin 3) (p : Fin 2) (k : S1x1x256x1024.Idx) : xBuf m ρ c ((xRect h p).emb k) = code m ρ (zb (h.val + 1) (flip c)) p k := by
  have h0 : ((xRect h p).emb k) 0 = h := Fin.ext (by
    show h.val + 1 * (k 0).val = h.val; have : (k 0).val < 1 := (k 0).isLt; omega)
  have h1 : ((xRect h p).emb k) 1 = p := Fin.ext (by
    show p.val + 1 * (k 1).val = p.val; have : (k 1).val < 1 := (k 1).isLt; omega)
  have h2 : xPos ((xRect h p).emb k) = k := funext fun a => Fin.ext (by
    match a with
    | 0 => show 0 = (k 0).val; have : (k 0).val < 1 := (k 0).isLt; omega
    | 1 => show 0 = (k 1).val; have : (k 1).val < 1 := (k 1).isLt; omega
    | 2 => show 0 + 1 * (k 2).val = (k 2).val; omega
    | 3 => show 0 + 1 * (k 3).val = (k 3).val; omega)
  unfold xBuf; rw [h0, h1, h2]

omit [FloatOps F] in
/-- A buffer that holds `w` at a view's positions agrees, on the view's elements, with any buffer `w` is written into. -/
theorem write_agree {sp : Space} {s : Shape} {e : EltTy} (v : View sig .tc sp s e) (f g : v.ty.Contents (Elt F)) (w : s.Idx → Elt F e)
    (h : ∀ x, g (v.emb x) = _root_.cast (congrArg (Elt F) v.elt_eq.symm) (w x)) : ∀ i ∈ v.set, v.write (Elt F) f w Finset.univ i = g i := by
  intro i hi
  unfold View.set at hi
  obtain ⟨x, -, rfl⟩ := Finset.mem_map.mp hi
  rw [View.write_emb_of_mem f w (Finset.mem_univ x), h]

/-- The slot memrefs as the kernel names them. -/
abbrev zSlot (h : Fin 4) (p : Fin 2) : Memref sig .tc .vmem S256x1024 .i8 :=
  Memref.squeeze (s := S1x1x256x1024) (zM.slice (zRect h p) (fun _ => rfl)) S256x1024 squeezes_S1x1x256x1024_S256x1024
/-- The slot of the cross buffer as the copies name it. -/
abbrev xSlot (h : Fin 3) (p : Fin 2) : Memref sig .tc .vmem S256x1024 .i8 :=
  Memref.squeeze (s := S1x1x256x1024) (xM.slice (xRect h p) (fun _ => rfl)) S256x1024 squeezes_S1x1x256x1024_S256x1024

omit [FloatOps F] in
/-- A copy's end is exactly its slot; -/
theorem zSlot_set (h : Fin 4) (p : Fin 2) : (zSlot h p).view.set = zSet h p := (View.set_reshape _ _).trans (View.set_slice_whole _ _)
omit [FloatOps F] in
/-- in the cross buffer too. -/
theorem xSlot_set (h : Fin 3) (p : Fin 2) : (xSlot h p).view.set = xSet h p := (View.set_reshape _ _).trans (View.set_slice_whole _ _)

/-- What a ring transfer writes into `nxt c`'s slot `h + 1` from `c`'s slot `h` is what that slot is to hold. -/
theorem z_landed (c : Dev nD) (h : Fin 3) (p : Fin 2) (fd : Buf (Elt F) ((nxt c : Thread nD τ).loc cc0_scratch0)) :
    ∀ i ∈ zSet h.succ p, (zSlot h.succ p).view.write (Elt F) fd ((zSlot h.castSucc p).view.read (Elt F) (zBuf m ρ c)) Finset.univ i = zBuf m ρ (nxt c) i := by
  rw [← zSlot_set]
  refine write_agree (zSlot h.succ p).view fd (zBuf m ρ (nxt c)) _ fun x => ?_
  rw [View.read_apply, cast_eq, cast_eq]
  refine (zBuf_emb m ρ (nxt c) h.succ p (Shape.reshapeEquiv _ x)).trans (Eq.trans ?_ (zBuf_emb m ρ c h.castSucc p (Shape.reshapeEquiv _ x)).symm)
  rw [Fin.val_succ, zb_nxt]; rfl

/-- What a cross transfer writes into `flip c`'s slot `h` from `c`'s slot `h + 1` is what that slot is to hold. -/
theorem x_landed (c : Dev nD) (h : Fin 3) (p : Fin 2) (fd : Buf (Elt F) ((flip c : Thread nD τ).loc cc0_scratch1)) :
    ∀ i ∈ xSet h p, (xSlot h p).view.write (Elt F) fd ((zSlot h.succ p).view.read (Elt F) (zBuf m ρ c)) Finset.univ i = xBuf m ρ (flip c) i := by
  rw [← xSlot_set]
  refine write_agree (xSlot h p).view fd (xBuf m ρ (flip c)) _ fun x => ?_
  rw [View.read_apply, cast_eq, cast_eq]
  refine (xBuf_emb m ρ (flip c) h p (Shape.reshapeEquiv _ x)).trans (Eq.trans ?_ (zBuf_emb m ρ c h.succ p (Shape.reshapeEquiv _ x)).symm)
  rw [flip_flip, Fin.val_succ]

/-- Storing a piece's codes makes slot `(0, p)`. -/
theorem z_stored (c : Dev nD) (p : Fin 2) (f : Buf (Elt F) ((c : Thread nD τ).loc cc0_scratch0)) :
    ∀ i ∈ zSet 0 p, (zM.access (zRect 0 p) : View sig .tc _ _ _).write (Elt F) f (code m ρ c p) Finset.univ i = zBuf m ρ c i := by
  have hs : (zM.access (zRect 0 p) : View sig .tc _ _ _).set = zSet 0 p := View.set_slice_whole _ _
  rw [← hs]
  exact write_agree (zM.access (zRect 0 p)) f (zBuf m ρ c) _ fun x => zBuf_emb m ρ c 0 p x

/-- Loading slot `(h, p)` reads the codes of the device `h` steps down; -/
theorem z_read (c : Dev nD) (h : Fin 4) (p : Fin 2) : zM.view.readAt (Elt F) (zRect h p).toLoadRect (zBuf m ρ c) = code m ρ (zb h.val c) p :=
  funext fun k => zBuf_emb m ρ c h p k
/-- loading slot `(h, p)` of the cross buffer, those of the device `h + 1` steps down from `flip c`. -/
theorem x_read (c : Dev nD) (h : Fin 3) (p : Fin 2) : xM.view.readAt (Elt F) (xRect h p).toLoadRect (xBuf m ρ c) = code m ρ (zb (h.val + 1) (flip c)) p :=
  funext fun k => xBuf_emb m ρ c h p k

/-! ## The semaphores as the kernel names them -/

/-- The semaphores as the body slices them out of their arrays. -/
theorem sem2 : ∀ (h : Fin 3) (p : Fin 2), (SemArray.squeeze (s := S1x1) (cc0_scratch2.slice (Rect.unit (s := S3x2) ![h.val, p.val] S1x1.size (sInb h p))) S_ squeezes_S1x1_S_).sem = dsem (0, h, p) := by decide
theorem sem3 : ∀ (h : Fin 3) (p : Fin 2), (SemArray.squeeze (s := S1x1) (cc0_scratch3.slice (Rect.unit (s := S3x2) ![h.val, p.val] S1x1.size (sInb h p))) S_ squeezes_S1x1_S_).sem = dsem (1, h, p) := by decide
theorem sem4 : ∀ (h : Fin 3) (p : Fin 2), (SemArray.squeeze (s := S1x1) (cc0_scratch4.slice (Rect.unit (s := S3x2) ![h.val, p.val] S1x1.size (sInb h p))) S_ squeezes_S1x1_S_).sem = dsem (2, h, p) := by decide
theorem sem5 : ∀ (h : Fin 3) (p : Fin 2), (SemArray.squeeze (s := S1x1) (cc0_scratch5.slice (Rect.unit (s := S3x2) ![h.val, p.val] S1x1.size (sInb h p))) S_ squeezes_S1x1_S_).sem = dsem (3, h, p) := by decide

/-- A landing's credit is the same in either buffer. -/
theorem zN (r : Rect S4x2x256x1024) (hr) (hs) : (Memref.squeeze (zM.slice r hr) S256x1024 hs).view.dmaCredit = N := rfl
/-- A slot of the cross buffer has the same size in the transfer's count. -/
theorem xN (r : Rect S3x2x256x1024) (hr) (hs) : (Memref.squeeze (xM.slice r hr) S256x1024 hs).view.dmaCredit = N := rfl

/-! ## The resources of a transfer -/

/-- A device's dues with the payments `l` outstanding, whatever it has waited on. -/
def ow (c : Dev nD) (l : List Pay) : sProp 𝕄 := iprop(∃ W, owes (c : Thread nD τ) (owed c l) W)
/-- The right to start a transfer: the two duty tokens it pays; -/
def zTok (c : Dev nD) (h : Fin 3) (p : Fin 2) : sProp 𝕄 := iprop(dutyTok ER (dcell c (0, h, p)) 0 0 ∗ dutyTok ER (dcell (nxt c) (1, h, p)) 0 0)
/-- The tokens of a copy across `x`. -/
def xTok (c : Dev nD) (h : Fin 3) (p : Fin 2) : sProp 𝕄 := iprop(dutyTok ER (dcell c (2, h, p)) 0 0 ∗ dutyTok ER (dcell (flip c) (3, h, p)) 0 0)
/-- the position at a semaphore of the device's own, and the credit for its round. -/
def atp (c : Dev nD) (j : J) : sProp 𝕄 := atPos ER (dcell c j) 0 ∅ 0
/-- The credit of a transfer's semaphore. -/
def crd (c : Dev nD) (j : J) : sProp 𝕄 := cred (tallyAt (dcell c j) () N)
/-- A semaphore of the device's own back at zero. -/
def done (c : Dev nD) (j : J) : sProp 𝕄 := semVal (dcell c j) 0

section Wp

/-- A transfer along the ring, hop `h`, piece `p`: from slot `h` of the device to slot `h + 1` of `nxt c`. -/
theorem wp_zsend {α : Type} {Q : α → sProp 𝕄} {k : PUnit → Prog (TpuEff nD τ sig (Elt F) Λ₀ .tc) α}
    (c n : Dev nD) (hn : n = nxt c) (h : Fin 3) (p : Fin 2) (l : List Pay) (a a' b : ℕ) (ha : a = h.val) (ha' : a' = h.val + 1) (hb : b = p.val)
    {i₁ i₂ i₃ i₄ s₁ s₂ u₁ u₂ u₃ u₄}
    {hsc : (Memref.squeeze (s := S1x1x256x1024) (zM.slice (Rect.unit (s := S4x2x256x1024) ![a', b, 0, 0] S1x1x256x1024.size i₂) s₂) S256x1024 u₂).view.ref.isScScratch = false}
    {hsrc} {hdst} {hsem} :
    recs m ρ K ⊢ iprop(zPts m ρ c h.castSucc p qz -∗ zAny (nxt c) h.succ p -∗ zTok c h p -∗ ow c (payZ h p :: l)
      -∗ ((crd c (0, h, p) ∗ ow c l) -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma
            (Memref.squeeze (s := S1x1x256x1024) (zM.slice (Rect.unit (s := S4x2x256x1024) ![a, b, 0, 0] S1x1x256x1024.size i₁) s₁) S256x1024 u₁)
            (.remote (Dev.tc n : Thread nD τ)
              (Memref.squeeze (s := S1x1x256x1024) (zM.slice (Rect.unit (s := S4x2x256x1024) ![a', b, 0, 0] S1x1x256x1024.size i₂) s₂) S256x1024 u₂)
              (.dma (SemArray.squeeze (s := S1x1) (cc0_scratch2.slice (Rect.unit (s := S3x2) ![a, b] S1x1.size i₃)) S_ u₃).sem) hsc)
            (.dma (SemArray.squeeze (s := S1x1) (cc0_scratch3.slice (Rect.unit (s := S3x2) ![a, b] S1x1.size i₄)) S_ u₄).sem) hsrc hdst hsem) k) Q) := by
  subst hn ha ha' hb
  unfold zAny zTok ow crd zPts
  iintro #HR Hs ⟨%fd, Hd⟩ ⟨Ht₁, Ht₂⟩ ⟨%W, HO⟩ Hk
  have e₁ : (SemArray.squeeze (s := S1x1) (cc0_scratch2.slice (Rect.unit (s := S3x2) ![h.val, p.val] S1x1.size i₃)) S_ u₃).sem = dsem (0, h, p) := sem2 h p
  have e₂ : (SemArray.squeeze (s := S1x1) (cc0_scratch3.slice (Rect.unit (s := S3x2) ![h.val, p.val] S1x1.size i₄)) S_ u₄).sem = dsem (1, h, p) := sem3 h p
  revert hsem; rw [e₁, e₂]; intro hsem
  iapply (Rounds.wp_send_pointsTo 𝒱₀ ER (kRd m ρ) (c : Thread nD τ) none (κ₁ := K (c, some (0, h, p))) (κ₂ := K (nxt c, some (1, h, p)))
    (c' := (nxt c : Thread nD τ)) (src := zSlot h.castSucc p) (dst := zSlot h.succ p) (sS := .dma (dsem (0, h, p))) (sem := .dma (dsem (1, h, p)))
    (r₁ := 0) (r₂ := 0) (d₁ := 0) (d₂ := 0) (q := qz) (fs := zBuf m ρ c) (fd := fd)
    (by rw [duties_dma]; exact Finset.mem_singleton_self _) (by rw [duties_dma]; exact Finset.mem_singleton_self _)
    () () N rfl (amount_dma m ρ c _ 0) (amount_dma m ρ (nxt c) _ 0) (owed c l) rfl (W := W)
    (by rw [payload_dma, zSlot_set]; exact BI.Entails.refl _)
    (by rw [payload_dma, zSlot_set, pointsTo_congr (z_landed m ρ c h p fd)]; exact BI.Entails.refl _)) $$ [Hs Hd HO Ht₁ Ht₂]
  · isplitr; · iapply (recs_inv m ρ K (c, some (0, h, p))); iexact HR
    isplitr; · iapply (recs_inv m ρ K (nxt c, some (1, h, p))); iexact HR
    isplitl [Hs]; · rw [zSlot_set]; iexact Hs
    isplitl [Hd]; · rw [zSlot_set]; iexact Hd
    isplitl [HO]; · iexact HO
    isplitl [Ht₁]; · iexact Ht₁
    isplitr; · iapply (recs_reached m ρ K (c, some (0, h, p))); iexact HR
    isplitl [Ht₂]; · iexact Ht₂
    iapply (recs_reached m ρ K (nxt c, some (1, h, p))); iexact HR
  iintro ⟨Hc, HO⟩
  iapply Hk
  isplitl [Hc]; · iexact Hc
  iexists W; iexact HO

/-- A transfer across `x`, hop `h`, piece `p`: from slot `h + 1` of the device's ring buffer to slot `h` of `flip c`'s cross buffer. -/
theorem wp_xsend {α : Type} {Q : α → sProp 𝕄} {k : PUnit → Prog (TpuEff nD τ sig (Elt F) Λ₀ .tc) α}
    (c n : Dev nD) (hn : n = flip c) (h : Fin 3) (p : Fin 2) (l : List Pay) (a a' b : ℕ) (ha : a = h.val + 1) (ha' : a' = h.val) (hb : b = p.val)
    {i₁ i₂ i₃ i₄ s₁ s₂ u₁ u₂ u₃ u₄}
    {hsc : (Memref.squeeze (s := S1x1x256x1024) (xM.slice (Rect.unit (s := S3x2x256x1024) ![a', b, 0, 0] S1x1x256x1024.size i₂) s₂) S256x1024 u₂).view.ref.isScScratch = false}
    {hsrc} {hdst} {hsem} :
    recs m ρ K ⊢ iprop(zPts m ρ c h.succ p qx -∗ xAny (flip c) h p -∗ xTok c h p -∗ ow c (payX h p :: l)
      -∗ ((crd c (2, h, p) ∗ ow c l) -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma
            (Memref.squeeze (s := S1x1x256x1024) (zM.slice (Rect.unit (s := S4x2x256x1024) ![a, b, 0, 0] S1x1x256x1024.size i₁) s₁) S256x1024 u₁)
            (.remote (Dev.tc n : Thread nD τ)
              (Memref.squeeze (s := S1x1x256x1024) (xM.slice (Rect.unit (s := S3x2x256x1024) ![a', b, 0, 0] S1x1x256x1024.size i₂) s₂) S256x1024 u₂)
              (.dma (SemArray.squeeze (s := S1x1) (cc0_scratch4.slice (Rect.unit (s := S3x2) ![a', b] S1x1.size i₃)) S_ u₃).sem) hsc)
            (.dma (SemArray.squeeze (s := S1x1) (cc0_scratch5.slice (Rect.unit (s := S3x2) ![a', b] S1x1.size i₄)) S_ u₄).sem) hsrc hdst hsem) k) Q) := by
  subst hn ha ha' hb
  unfold xAny xTok ow crd zPts
  iintro #HR Hs ⟨%fd, Hd⟩ ⟨Ht₁, Ht₂⟩ ⟨%W, HO⟩ Hk
  have e₁ : (SemArray.squeeze (s := S1x1) (cc0_scratch4.slice (Rect.unit (s := S3x2) ![h.val, p.val] S1x1.size i₃)) S_ u₃).sem = dsem (2, h, p) := sem4 h p
  have e₂ : (SemArray.squeeze (s := S1x1) (cc0_scratch5.slice (Rect.unit (s := S3x2) ![h.val, p.val] S1x1.size i₄)) S_ u₄).sem = dsem (3, h, p) := sem5 h p
  revert hsem; rw [e₁, e₂]; intro hsem
  iapply (Rounds.wp_send_pointsTo 𝒱₀ ER (kRd m ρ) (c : Thread nD τ) none (κ₁ := K (c, some (2, h, p))) (κ₂ := K (flip c, some (3, h, p)))
    (c' := (flip c : Thread nD τ)) (src := zSlot h.succ p) (dst := xSlot h p) (sS := .dma (dsem (2, h, p))) (sem := .dma (dsem (3, h, p)))
    (r₁ := 0) (r₂ := 0) (d₁ := 0) (d₂ := 0) (q := qx) (fs := zBuf m ρ c) (fd := fd)
    (by rw [duties_dma]; exact Finset.mem_singleton_self _) (by rw [duties_dma]; exact Finset.mem_singleton_self _)
    () () N rfl (amount_dma m ρ c _ 0) (amount_dma m ρ (flip c) _ 0) (owed c l) rfl (W := W)
    (by rw [payload_dma, zSlot_set]; exact BI.Entails.refl _)
    (by rw [payload_dma, xSlot_set, pointsTo_congr (x_landed m ρ c h p fd)]; exact BI.Entails.refl _)) $$ [Hs Hd HO Ht₁ Ht₂]
  · isplitr; · iapply (recs_inv m ρ K (c, some (2, h, p))); iexact HR
    isplitr; · iapply (recs_inv m ρ K (flip c, some (3, h, p))); iexact HR
    isplitl [Hs]; · rw [zSlot_set]; iexact Hs
    isplitl [Hd]; · rw [xSlot_set]; iexact Hd
    isplitl [HO]; · iexact HO
    isplitl [Ht₁]; · iexact Ht₁
    isplitr; · iapply (recs_reached m ρ K (c, some (2, h, p))); iexact HR
    isplitl [Ht₂]; · iexact Ht₂
    iapply (recs_reached m ρ K (flip c, some (3, h, p))); iexact HR
  iintro ⟨Hc, HO⟩
  iapply Hk
  isplitl [Hc]; · iexact Hc
  iexists W; iexact HO

/-- A wait on the device's own DMA semaphore `(κ, h, p)`: its payload comes back and the semaphore is at zero, its
    round over. `A` is the semaphore array, `D` the buffer whose slot names the amount. -/
theorem wp_dwait {α : Type} {Q : α → sProp 𝕄} {k : PUnit → Prog (TpuEff nD τ sig (Elt F) Λ₀ .tc) α}
    {A : DmaSems sig S3x2} {κ : Fin 4}
    (hA : ∀ (h : Fin 3) (p : Fin 2), (SemArray.squeeze (s := S1x1) (A.slice (Rect.unit (s := S3x2) ![h.val, p.val] S1x1.size (sInb h p))) S_ squeezes_S1x1_S_).sem = dsem (κ, h, p))
    {sD : Shape} {D : Memref sig .tc .vmem sD .i8}
    (hD : ∀ r hr hs, (Memref.squeeze (D.slice r hr) S256x1024 hs).view.dmaCredit = N)
    (c : Dev nD) (h : Fin 3) (p : Fin 2) (l : List Pay) (hl : ∀ x ∈ l, lvS (.dma (dsem (κ, h, p))) < lvS x.2.1) (a b : ℕ) (ha : a = h.val) (hb : b = p.val)
    {sp : Space} {src : Memref sig .tc sp S256x1024 .i8} {r : Rect sD} {hr hs i₃ u₃ hx hy} :
    recs m ρ K ⊢ iprop(atp c (κ, h, p) -∗ crd c (κ, h, p) -∗ ow c l
      -∗ ((done c (κ, h, p) ∗ dmaPay m ρ c (κ, h, p) ∗ ow c l) -∗ wp frame (wpE (defs₀ (F := F)) 𝒱₀ (c : Thread nD τ) none) Set.univ (k ⟨⟩) Q)
      -∗ wp frame (wpE (defs₀ (F := F)) 𝒱₀ (c : Thread nD τ) none) Set.univ
          (.op (.waitDma2 (SemArray.squeeze (s := S1x1) (A.slice (Rect.unit (s := S3x2) ![a, b] S1x1.size i₃)) S_ u₃).sem
            src (Memref.squeeze (D.slice r hr) S256x1024 hs) hx hy) k) Q) := by
  subst ha hb
  unfold atp crd ow done
  iintro #HR Ha Hc ⟨%W, HO⟩ Hk
  have e₁ : (SemArray.squeeze (s := S1x1) (A.slice (Rect.unit (s := S3x2) ![h.val, p.val] S1x1.size i₃)) S_ u₃).sem = dsem (κ, h, p) := hA h p
  rw [e₁]
  have e₂ : N = (Memref.squeeze (D.slice r hr) S256x1024 hs).view.dmaCredit := (hD r hr hs).symm
  have e₃ : (cred (tallyAt (dcell c (κ, h, p)) () N) : sProp 𝕄) = cred (tallyAt ((c : Thread nD τ), SemLoc.dma (dsem (κ, h, p))) () (Memref.squeeze (D.slice r hr) S256x1024 hs).view.dmaCredit) := by
    rw [← e₂]
  iapply (Rounds.wp_wait_rest_token 𝒱₀ ER (kRd m ρ) (c : Thread nD τ) none (κ := K (c, some (κ, h, p)))
      (wpE_waitDma2_eq 𝒱₀ (c : Thread nD τ) none Set.univ) (Set.mem_univ _) () (O := owed c l) (W := W) (R := 0) (m := 0) (T := ∅)
      (by rw [Nat.zero_add, expect_dma, hD r hr hs])) $$ [Hc HO Ha]
  · isplitr; · iapply (recs_inv m ρ K (c, some (κ, h, p))); iexact HR
    isplitl [Hc]; · iapply (Entails.of_eq e₃); iexact Hc
    isplitl [HO]; · iexact HO
    isplitr
    · iapply (recs_mayWait m ρ K c _ l hl)
      iexact HR
    iexact Ha
  iintro ⟨HO, Ha, -, Hpay⟩
  imod (Rounds.cell_close ER (kRd m ρ) (Set.mem_univ (K (c, some (κ, h, p)))) (fun h => h) (R := 0 + 1) (duties_later m ρ (dcell c (κ, h, p)))) $$ [Ha] with Hz
  · isplitr; · iapply (recs_inv m ρ K (c, some (κ, h, p))); iexact HR
    iexact Ha
  iapply Hk
  isplitl [Hz]; · iexact Hz
  isplitl [Hpay]; · iapply (Entails.of_eq (rest_dma m ρ c (κ, h, p))); iexact Hpay
  iexists _; iexact HO

end Wp

end Cert.KProof

end
-- ==== Proof.Out.lean ====
/-
# `Out`: the rows of unscaled exponentials, and the rules for the loads and stores of the body

What the output's staging buffer holds before the last scaling, column by column; a store of one piece extends the
columns already written.
-/
module

public import proofs.«01_k».proof.Proof.Effects

@[expose] public section

set_option synthInstance.maxSize 4096

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Option J → ℕ)

/-! ## The values stored -/

/-- The exponentials of a piece's dequantised codes, as stored. -/
def stq (X : Vec F S1x1x256x1024 .i8) : FVec F S256x1024 .bf16 := k0_pay17 (k0_pay15 X)
/-- A running row sum and a piece's exponentials' row sums. -/
def addS (s : FVec F S256x1 .f32) (X : Vec F S1x1x256x1024 .i8) : FVec F S256x1 .f32 := k0_pay16 s X

/-- The codes in slot `(h, p)` of the ring buffer, and of the cross buffer. -/
def zc (c : Dev nD) (h : ℕ) (p : Fin 2) : Vec F S1x1x256x1024 .i8 := code m ρ (zb h c) p
def xc (c : Dev nD) (h : ℕ) (p : Fin 2) : Vec F S1x1x256x1024 .i8 := code m ρ (zb h (flip c)) p

/-- Row `r`, column `k` of a block of `1024` columns; of `2048`. -/
def at1 (r : Fin 256) (k : Fin 1024) : S256x1024.Idx
  | 0 => r | 1 => k
def at2 (r : Fin 256) (k : Fin 2048) : S256x2048.Idx
  | 0 => r | 1 => k

/-- The unscaled exponential at row `r` and column `4096 * zz + 2048 * xx + 1024 * p + k`. -/
def outAt (c : Dev nD) (r : Fin 256) (zz xx : ℕ) (p : Fin 2) (k : Fin 1024) : Elt F .bf16 :=
  if (c.val % 4 + 4 - zz) % 4 = 0 then
    if xx = c.val / 16 then k0_pay11 (lgPc m ρ c p) (at1 r k)
    else k0_pay9 (lgOther m ρ c) (at2 r ⟨1024 * p.val + k.val, by have := k.isLt; have := p.isLt; omega⟩)
  else if xx = c.val / 16 then stq (zc m ρ c ((c.val % 4 + 4 - zz) % 4) p) (at1 r k)
  else stq (xc m ρ c ((c.val % 4 + 4 - zz) % 4) p) (at1 r k)

/-- The rows of unscaled exponentials. -/
def outE (c : Dev nD) : Buf (Elt F) ((c : Thread nD τ).loc cc0_stg2_0) := fun i : S256x16384.Idx =>
  outAt m ρ c (i 0) ((i 1).val / 4096) ((i 1).val % 4096 / 2048) ⟨(i 1).val % 2048 / 1024, by omega⟩ ⟨(i 1).val % 1024, Nat.mod_lt _ (by decide)⟩

/-- The row sums of the exponentials, in the order the body adds them. -/
def sumE (c : Dev nD) : FVec F S256x1 .f32 :=
  addS (addS (addS (addS (addS (addS (addS (addS (addS (addS (addS (addS (k0_pay13 (lgPc m ρ c 0) (lgPc m ρ c 1) (lgOther m ρ c))
    (zc m ρ c 1 0)) (zc m ρ c 1 1)) (xc m ρ c 1 0)) (zc m ρ c 2 0)) (xc m ρ c 1 1)) (zc m ρ c 2 1)) (xc m ρ c 2 0)) (zc m ρ c 3 0)) (xc m ρ c 2 1))
    (zc m ρ c 3 1)) (xc m ρ c 3 0)) (xc m ρ c 3 1)

/-- What the body leaves in the output's staging buffer. -/
def outF (c : Dev nD) : Buf (Elt F) ((c : Thread nD τ).loc cc0_stg2_0) := k0_pay1 (sumE m ρ c) (outE m ρ c)

/-! ## The offsets -/

/-- The first column of the piece `p` of half `xx` of the block `h` steps down from `c`'s. -/
def col (c : Dev nD) (h xx p : ℕ) : ℕ := 4096 * ((c.val % 4 + 4 - h) % 4) + 2048 * xx + 1024 * p

/-- The offsets that the body computes are the first columns of its pieces. -/
theorem off5_eq : ∀ (c : Dev nD) (r₁ : Fin 3) (r₂ : Fin 2), k0_off5 c (BitVec.ofNat 32 (1 + r₁.val)) (BitVec.ofNat 32 (1024 * r₂.val)) = ![0, col c (r₁.val + 1) (c.val / 16) r₂.val] := by
  decide +kernel
theorem off6_eq : ∀ (c : Dev nD) (r₁ : Fin 3) (r₂ : Fin 2), k0_off6 c (BitVec.ofNat 32 (1 + r₁.val)) (BitVec.ofNat 32 (1024 * r₂.val)) = ![0, col c (r₁.val + 1) (1 - c.val / 16) r₂.val] := by
  decide +kernel
theorem off3_eq (c : Dev nD) : k0_off3 c = ![0, col c 0 (1 - c.val / 16) 0] := by
  have hc : c.val < 32 := c.isLt
  rw [k0_off3_eq]; unfold col
  congr 1; congr 1; omega
theorem off4_eq (c : Dev nD) (r : Fin 2) : k0_off4 c (BitVec.ofNat 32 (1024 * r.val)) = ![0, col c 0 (c.val / 16) r.val] := by
  have hc : c.val < 32 := c.isLt
  rw [k0_off4_eq]; unfold col
  congr 1; congr 1; omega

/-! ## The columns written -/

/-- The output's staging buffer, holding the exponentials in the columns of the intervals `D` (first column, length). -/
def oPts (c : Dev nD) (D : List (ℕ × ℕ)) : sProp 𝕄 :=
  iprop(∃ f, ⌜∀ i : S256x16384.Idx, ∀ d ∈ D, d.1 ≤ (i 1).val → (i 1).val < d.1 + d.2 → f i = outE m ρ c i⌝ ∗ ((c : Thread nD τ).loc cc0_stg2_0) ↦{fullShare} f)

/-- A load of the output changes nothing. -/
theorem wp_oload {α : Type} {Q : α → sProp 𝕄} (c : Dev nD) (D : List (ℕ × ℕ)) {r : LoadRect S256x16384} {hl : oM.view.LoadsAt r}
    {k : (r.shape.Idx → Elt F .bf16) → Prog (TpuEff nD τ sig (Elt F) Λ₀ .tc) α} :
    oPts m ρ c D ⊢ iprop((∀ v, oPts m ρ c D -∗ wp frame (wpE (defs₀ (F := F)) 𝒱₀ (c : Thread nD τ) none) Set.univ (k v) Q)
      -∗ wp frame (wpE (defs₀ (F := F)) 𝒱₀ (c : Thread nD τ) none) Set.univ (.op (.load oM r hl) k) Q) := by
  iintro H Hk
  unfold oPts
  icases H with ⟨%f, %hf, H⟩
  iapply (wp_load 𝒱₀ (c : Thread nD τ) none Set.univ (m := oM) (Finset.subset_univ _)) $$ H; iintro H
  iapply Hk
  iexists f; isplitr; · ipureintro; exact hf
  iexact H

/-- Storing exponentials in the columns from `o` on, `n` of them. -/
theorem wp_ostore {α : Type} {Q : α → sProp 𝕄} (c : Dev nD) (D : List (ℕ × ℕ)) {off sz : Fin 2 → ℕ} {inb} (o n : ℕ) (ho : off = ![0, o]) (hn : sz 1 = n)
    {w : (Rect.unit (s := S256x16384) off sz inb).shape.Idx → Elt F .bf16} (hw : ∀ k, w k = outE m ρ c ((Rect.unit (s := S256x16384) off sz inb).emb k)) (h0 : sz 0 = 256)
    {hx hm} {k : PUnit → Prog (TpuEff nD τ sig (Elt F) Λ₀ .tc) α} :
    oPts m ρ c D ⊢ iprop((oPts m ρ c ((o, n) :: D) -∗ wp frame (wpE (defs₀ (F := F)) 𝒱₀ (c : Thread nD τ) none) Set.univ (k ⟨⟩) Q)
      -∗ wp frame (wpE (defs₀ (F := F)) 𝒱₀ (c : Thread nD τ) none) Set.univ (.op (.store oM (Rect.unit (s := S256x16384) off sz inb) w Finset.univ hx hm) k) Q) := by
  subst hn ho
  iintro H Hk
  unfold oPts
  icases H with ⟨%f, %hf, H⟩
  iapply (wp_store 𝒱₀ (c : Thread nD τ) none Set.univ (m := oM) (r := Rect.unit (s := S256x16384) ![0, o] sz inb) (Mk := Finset.univ) (S := Finset.univ) (f := f) (Finset.subset_univ _)) $$ H; iintro H
  iapply Hk
  iexists _; isplitr
  · ipureintro
    have hset : (oM.access (Rect.unit (s := S256x16384) ![0, o] sz inb) : View sig .tc _ _ _).set = (Rect.unit (s := S256x16384) ![0, o] sz inb).set := View.set_slice_whole _ _
    have hag := write_agree (oM.access (Rect.unit (s := S256x16384) ![0, o] sz inb)) f (outE m ρ c) w (fun x => (hw x).symm)
    intro i d hd h1 h2
    by_cases hi : i ∈ (Rect.unit (s := S256x16384) ![0, o] sz inb).set
    · exact hag i (hset ▸ hi)
    · rcases List.mem_cons.mp hd with rfl | hd
      · refine absurd (Rect.mem_set_unit.mpr fun a => ?_) hi
        match a with
        | 0 => exact ⟨Nat.zero_le _, by rw [h0]; have : (i 0).val < 256 := (i 0).isLt; show (i 0).val < 0 + 256; omega⟩
        | 1 => exact ⟨h1, h2⟩
      · rw [View.write_of_not_mem]
        · exact hf i d hd h1 h2
        · show i ∉ (oM.access (Rect.unit (s := S256x16384) ![0, o] sz inb) : View sig .tc _ _ _).set
          rw [hset]; exact hi
  iexact H

/-! ## What the stored pieces are -/

/-- The columns of one piece are those of the exponentials. -/
theorem outE_col (c : Dev nD) (h xx : ℕ) (p : Fin 2) (hh : h < 4) (hxx : xx < 2) {off sz : Fin 2 → ℕ} {inb} (ho : off = ![0, col c h xx p.val])
    (k : (Rect.unit (s := S256x16384) off sz inb).shape.Idx) (r : Fin 256) (hr : (k 0).val = r.val) (kk : Fin 1024) (hk : (k 1).val = kk.val) :
    outE m ρ c ((Rect.unit (s := S256x16384) off sz inb).emb k) = outAt m ρ c r ((c.val % 4 + 4 - h) % 4) xx p kk := by
  subst ho
  have e0 : ((Rect.unit (s := S256x16384) ![0, col c h xx p.val] sz inb).emb k) 0 = r := Fin.ext (by show 0 + 1 * (k 0).val = r.val; omega)
  have e1 : (((Rect.unit (s := S256x16384) ![0, col c h xx p.val] sz inb).emb k) 1).val = col c h xx p.val + kk.val := by
    show col c h xx p.val + 1 * (k 1).val = _; omega
  have hp := p.isLt; have hkk := kk.isLt
  have hz : (c.val % 4 + 4 - h) % 4 < 4 := Nat.mod_lt _ (by decide)
  unfold outE
  rw [e0]
  congr 1
  · rw [e1]; unfold col; omega
  · rw [e1]; unfold col; omega
  · apply Fin.ext; show _ = p.val; dsimp only; rw [e1]; unfold col; omega
  · apply Fin.ext; show _ = kk.val; dsimp only; rw [e1]; unfold col; omega

/-- An index is the one at its coordinates. -/
theorem at1_eq (k : S256x1024.Idx) : at1 (k 0) (k 1) = k := funext fun a => by match a with | 0 => rfl | 1 => rfl

/-- A received piece of the ring; -/
theorem stq_z (c : Dev nD) (h : ℕ) (p : Fin 2) (h0 : 0 < h) (hh : h < 4) {off : Fin 2 → ℕ} {inb} (ho : off = ![0, col c h (c.val / 16) p.val])
    (k : (Rect.unit (s := S256x16384) off S256x1024.size inb).shape.Idx) :
    stq (zc m ρ c h p) k = outE m ρ c ((Rect.unit (s := S256x16384) off S256x1024.size inb).emb k) := by
  have hc : c.val < 32 := c.isLt
  rw [outE_col m ρ c h (c.val / 16) p hh (by omega) ho k (k 0) rfl (k 1) rfl]
  unfold outAt
  rw [if_neg (by omega), if_pos rfl, show (c.val % 4 + 4 - (c.val % 4 + 4 - h) % 4) % 4 = h by omega]
  exact congrArg _ (at1_eq k).symm
/-- of the cross buffer; -/
theorem stq_x (c : Dev nD) (h : ℕ) (p : Fin 2) (h0 : 0 < h) (hh : h < 4) {off : Fin 2 → ℕ} {inb} (ho : off = ![0, col c h (1 - c.val / 16) p.val])
    (k : (Rect.unit (s := S256x16384) off S256x1024.size inb).shape.Idx) :
    stq (xc m ρ c h p) k = outE m ρ c ((Rect.unit (s := S256x16384) off S256x1024.size inb).emb k) := by
  have hc : c.val < 32 := c.isLt
  rw [outE_col m ρ c h (1 - c.val / 16) p hh (by omega) ho k (k 0) rfl (k 1) rfl]
  unfold outAt
  rw [if_neg (by omega), if_neg (by omega), show (c.val % 4 + 4 - (c.val % 4 + 4 - h) % 4) % 4 = h by omega]
  exact congrArg _ (at1_eq k).symm
/-- the device's own piece; -/
theorem own_piece (c : Dev nD) (p : Fin 2) {off : Fin 2 → ℕ} {inb} (ho : off = ![0, col c 0 (c.val / 16) p.val])
    (k : (Rect.unit (s := S256x16384) off S256x1024.size inb).shape.Idx) :
    k0_pay11 (lgPc m ρ c p) k = outE m ρ c ((Rect.unit (s := S256x16384) off S256x1024.size inb).emb k) := by
  have hc : c.val < 32 := c.isLt
  rw [outE_col m ρ c 0 (c.val / 16) p (by decide) (by omega) ho k (k 0) rfl (k 1) rfl]
  unfold outAt
  rw [if_pos (by omega), if_pos rfl]
  exact congrArg _ (at1_eq k).symm
/-- the other half of its block. -/
theorem own_other_at (c : Dev nD) (i : S256x16384.Idx) (k : S256x2048.Idx) (h0 : i 0 = k 0) (h1 : (i 1).val = 4096 * (c.val % 4) + 2048 * (1 - c.val / 16) + (k 1).val) :
    k0_pay9 (lgOther m ρ c) k = outE m ρ c i := by
  have hc : c.val < 32 := c.isLt
  have hk : (k 1).val < 2048 := (k 1).isLt
  have hx : 1 - c.val / 16 < 2 := by omega
  have hz : c.val % 4 < 4 := by omega
  generalize hX : 1 - c.val / 16 = X at h1 hx
  generalize hZ : c.val % 4 = Z at h1 hz
  have h2 : (i 1).val / 4096 = Z := by omega
  have h3 : (i 1).val % 4096 / 2048 = X := by omega
  unfold outE outAt
  rw [h2, h3, hZ, if_pos (by omega), if_neg (by omega)]
  refine congrArg _ (funext fun a => ?_)
  match a with
  | 0 => exact h0.symm
  | 1 => exact Fin.ext (by show (k 1).val = 1024 * ((i 1).val % 2048 / 1024) + (i 1).val % 1024; omega)
/-- The exact other half, as it is stored. -/
theorem own_other (c : Dev nD) {off : Fin 2 → ℕ} {inb} (ho : off = ![0, col c 0 (1 - c.val / 16) 0])
    (k : (Rect.unit (s := S256x16384) off S256x2048.size inb).shape.Idx) :
    k0_pay9 (lgOther m ρ c) k = outE m ρ c ((Rect.unit (s := S256x16384) off S256x2048.size inb).emb k) := by
  have hc : c.val < 32 := c.isLt
  subst ho
  refine own_other_at m ρ c _ k (Fin.ext ?_) ?_
  · show 0 + 1 * (k 0).val = (k 0).val; omega
  · show col c 0 (1 - c.val / 16) 0 + 1 * (k 1).val = _; unfold col; omega

/-- All sixteen pieces together are all the columns. -/
theorem oPts_full (c : Dev nD) (D : List (ℕ × ℕ)) (hD : ∀ j < 16384, ∃ d ∈ D, d.1 ≤ j ∧ j < d.1 + d.2) :
    oPts m ρ c D ⊢ (((c : Thread nD τ).loc cc0_stg2_0) ↦{fullShare} outE m ρ c : sProp 𝕄) := by
  unfold oPts
  iintro ⟨%f, %hf, H⟩
  have he : f = outE m ρ c := funext fun i => by
    obtain ⟨d, hd, h1, h2⟩ := hD (i 1).val (i 1).isLt
    exact hf i d hd h1 h2
  rw [← he]; iexact H

/-! ## Loads and the store of the slots -/

/-- Loading slot `(h, p)` of the ring buffer, whatever share of it is held; -/
theorem wp_zload {α : Type} {Q : α → sProp 𝕄} (c : Dev nD) (h : Fin 4) (p : Fin 2) (q : PosShare TreeShare) (a b : ℕ) (ha : a = h.val) (hb : b = p.val)
    {inb} {hl} {k : Vec F S1x1x256x1024 .i8 → Prog (TpuEff nD τ sig (Elt F) Λ₀ .tc) α} :
    zPts m ρ c h p q ⊢ iprop((zPts m ρ c h p q -∗ wp frame (wpE (defs₀ (F := F)) 𝒱₀ (c : Thread nD τ) none) Set.univ (k (zc m ρ c h.val p)) Q)
      -∗ wp frame (wpE (defs₀ (F := F)) 𝒱₀ (c : Thread nD τ) none) Set.univ
          (.op (.load zM (Rect.unit (s := S4x2x256x1024) ![a, b, 0, 0] S1x1x256x1024.size inb).toLoadRect hl) k) Q) := by
  subst ha hb
  iintro H Hk
  unfold zPts
  iapply (wp_load_rect 𝒱₀ (c : Thread nD τ) none Set.univ (m := zM) (r := zRect h p) (S := zSet h p) (q := q) (f := zBuf m ρ c) (le_of_eq (View.set_slice_whole _ _))) $$ H; iintro H
  rw [show (zM.access (zRect h p) : View sig .tc _ _ _).read (Elt F) (zBuf m ρ c) = zc m ρ c h.val p from z_read m ρ c h p]
  iapply Hk; iexact H
/-- of the cross buffer. -/
theorem wp_xload {α : Type} {Q : α → sProp 𝕄} (c : Dev nD) (h : Fin 3) (p : Fin 2) (q : PosShare TreeShare) (a b : ℕ) (ha : a = h.val) (hb : b = p.val)
    {inb} {hl} {k : Vec F S1x1x256x1024 .i8 → Prog (TpuEff nD τ sig (Elt F) Λ₀ .tc) α} :
    xPts m ρ c h p q ⊢ iprop((xPts m ρ c h p q -∗ wp frame (wpE (defs₀ (F := F)) 𝒱₀ (c : Thread nD τ) none) Set.univ (k (xc m ρ c (h.val + 1) p)) Q)
      -∗ wp frame (wpE (defs₀ (F := F)) 𝒱₀ (c : Thread nD τ) none) Set.univ
          (.op (.load xM (Rect.unit (s := S3x2x256x1024) ![a, b, 0, 0] S1x1x256x1024.size inb).toLoadRect hl) k) Q) := by
  subst ha hb
  iintro H Hk
  unfold xPts
  iapply (wp_load_rect 𝒱₀ (c : Thread nD τ) none Set.univ (m := xM) (r := xRect h p) (S := xSet h p) (q := q) (f := xBuf m ρ c) (le_of_eq (View.set_slice_whole _ _))) $$ H; iintro H
  rw [show (xM.access (xRect h p) : View sig .tc _ _ _).read (Elt F) (xBuf m ρ c) = xc m ρ c (h.val + 1) p from x_read m ρ c h p]
  iapply Hk; iexact H
/-- Loading slot `(0, p)` before it is written, and storing the piece's codes there. -/
theorem wp_zload_any {α : Type} {Q : α → sProp 𝕄} (c : Dev nD) (p : Fin 2) (b : ℕ) (hb : b = p.val)
    {inb} {hl} {k : Vec F S1x1x256x1024 .i8 → Prog (TpuEff nD τ sig (Elt F) Λ₀ .tc) α} :
    zAny c 0 p ⊢ iprop((∀ v, zAny c 0 p -∗ wp frame (wpE (defs₀ (F := F)) 𝒱₀ (c : Thread nD τ) none) Set.univ (k v) Q)
      -∗ wp frame (wpE (defs₀ (F := F)) 𝒱₀ (c : Thread nD τ) none) Set.univ
          (.op (.load zM (Rect.unit (s := S4x2x256x1024) ![0, b, 0, 0] S1x1x256x1024.size inb).toLoadRect hl) k) Q) := by
  subst hb
  unfold zAny
  iintro ⟨%f, H⟩ Hk
  iapply (wp_load_rect 𝒱₀ (c : Thread nD τ) none Set.univ (m := zM) (r := zRect 0 p) (S := zSet 0 p) (q := fullShare) (f := f) (le_of_eq (View.set_slice_whole _ _))) $$ H; iintro H
  iapply Hk; iexists f; iexact H
/-- Storing a piece's codes in the first slot. -/
theorem wp_zstore {α : Type} {Q : α → sProp 𝕄} (c : Dev nD) (p : Fin 2) (b : ℕ) (hb : b = p.val) {w : Vec F S1x1x256x1024 .i8} (hw : w = code m ρ c p)
    {inb} {hx hm} {k : PUnit → Prog (TpuEff nD τ sig (Elt F) Λ₀ .tc) α} :
    zAny c 0 p ⊢ iprop((zPts m ρ c 0 p fullShare -∗ wp frame (wpE (defs₀ (F := F)) 𝒱₀ (c : Thread nD τ) none) Set.univ (k ⟨⟩) Q)
      -∗ wp frame (wpE (defs₀ (F := F)) 𝒱₀ (c : Thread nD τ) none) Set.univ
          (.op (.store zM (Rect.unit (s := S4x2x256x1024) ![0, b, 0, 0] S1x1x256x1024.size inb) w Finset.univ hx hm) k) Q) := by
  subst hb hw
  unfold zAny zPts
  iintro ⟨%f, H⟩ Hk
  iapply (wp_store 𝒱₀ (c : Thread nD τ) none Set.univ (m := zM) (r := zRect 0 p) (Mk := Finset.univ) (S := zSet 0 p) (f := f) (le_of_eq (View.set_slice_whole _ _))) $$ H; iintro H
  iapply Hk
  iapply (Entails.of_eq (pointsTo_congr (z_stored m ρ c p f))); iexact H

end Cert.KProof

end
-- ==== Proof.Steps.lean ====
/-
# `Steps`: the body's steps with their resources bundled
-/
module

public import proofs.«01_k».proof.Proof.Out

@[expose] public section

set_option synthInstance.maxSize 4096

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Option J → ℕ)

/-! ## The steps with their resources bundled -/

/-- A device's run of a program of the body. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- A semaphore of the device's own with its round running: the position and the round's credit. -/
def fly (c : Dev nD) (j : J) : sProp 𝕄 := iprop(atp c j ∗ crd c j)
/-- What starting a transfer takes: the slot at the far end, the tokens, the position at the send semaphore. -/
def zGo (c : Dev nD) (h : Fin 3) (p : Fin 2) : sProp 𝕄 := iprop(zAny (nxt c) h.succ p ∗ zTok c h p ∗ atp c (0, h, p))
/-- What a copy across `x` needs: the target slot, the tokens, the position. -/
def xGo (c : Dev nD) (h : Fin 3) (p : Fin 2) : sProp 𝕄 := iprop(xAny (flip c) h p ∗ xTok c h p ∗ atp c (2, h, p))

section Steps

/-- Starting a ring transfer. -/
theorem zsend {α : Type} {Q : α → sProp 𝕄} {k : PUnit → Prog (TpuEff nD τ sig (Elt F) Λ₀ .tc) α}
    (c n : Dev nD) (hn : n = nxt c) (h : Fin 3) (h' : Fin 4) (p : Fin 2) (l : List Pay) (a a' b : ℕ) (hh : h' = h.castSucc ∧ a = h.val ∧ a' = h.val + 1 ∧ b = p.val)
    {i₁ i₂ i₃ i₄ s₁ s₂ u₁ u₂ u₃ u₄}
    {hsc : (Memref.squeeze (s := S1x1x256x1024) (zM.slice (Rect.unit (s := S4x2x256x1024) ![a', b, 0, 0] S1x1x256x1024.size i₂) s₂) S256x1024 u₂).view.ref.isScScratch = false}
    {hsrc} {hdst} {hsem} :
    recs m ρ K ⊢ iprop(zPts m ρ c h' p qz -∗ zGo c h p -∗ ow c (payZ h p :: l)
      -∗ (fly c (0, h, p) -∗ ow c l -∗ WP c (k ⟨⟩) Q)
      -∗ WP c (.op (.enqueueDma
            (Memref.squeeze (s := S1x1x256x1024) (zM.slice (Rect.unit (s := S4x2x256x1024) ![a, b, 0, 0] S1x1x256x1024.size i₁) s₁) S256x1024 u₁)
            (.remote (Dev.tc n : Thread nD τ)
              (Memref.squeeze (s := S1x1x256x1024) (zM.slice (Rect.unit (s := S4x2x256x1024) ![a', b, 0, 0] S1x1x256x1024.size i₂) s₂) S256x1024 u₂)
              (.dma (SemArray.squeeze (s := S1x1) (cc0_scratch2.slice (Rect.unit (s := S3x2) ![a, b] S1x1.size i₃)) S_ u₃).sem) hsc)
            (.dma (SemArray.squeeze (s := S1x1) (cc0_scratch3.slice (Rect.unit (s := S3x2) ![a, b] S1x1.size i₄)) S_ u₄).sem) hsrc hdst hsem) k) Q) := by
  obtain ⟨rfl, h1, h2, h3⟩ := hh
  unfold zGo fly
  iintro #HR Hs ⟨Hd, Ht, Ha⟩ HO Hk
  iapply (wp_zsend m ρ K c n hn h p l a a' b h1 h2 h3) $$ HR Hs Hd Ht HO
  iintro ⟨Hc, HO⟩
  iapply Hk $$ [Ha Hc] HO
  isplitl [Ha]; · iexact Ha
  iexact Hc

/-- Starting a cross transfer. -/
theorem xsend {α : Type} {Q : α → sProp 𝕄} {k : PUnit → Prog (TpuEff nD τ sig (Elt F) Λ₀ .tc) α}
    (c n : Dev nD) (hn : n = flip c) (h : Fin 3) (h' : Fin 4) (p : Fin 2) (l : List Pay) (a a' b : ℕ) (hh : h' = h.succ ∧ a = h.val + 1 ∧ a' = h.val ∧ b = p.val)
    {i₁ i₂ i₃ i₄ s₁ s₂ u₁ u₂ u₃ u₄}
    {hsc : (Memref.squeeze (s := S1x1x256x1024) (xM.slice (Rect.unit (s := S3x2x256x1024) ![a', b, 0, 0] S1x1x256x1024.size i₂) s₂) S256x1024 u₂).view.ref.isScScratch = false}
    {hsrc} {hdst} {hsem} :
    recs m ρ K ⊢ iprop(zPts m ρ c h' p qx -∗ xGo c h p -∗ ow c (payX h p :: l)
      -∗ (fly c (2, h, p) -∗ ow c l -∗ WP c (k ⟨⟩) Q)
      -∗ WP c (.op (.enqueueDma
            (Memref.squeeze (s := S1x1x256x1024) (zM.slice (Rect.unit (s := S4x2x256x1024) ![a, b, 0, 0] S1x1x256x1024.size i₁) s₁) S256x1024 u₁)
            (.remote (Dev.tc n : Thread nD τ)
              (Memref.squeeze (s := S1x1x256x1024) (xM.slice (Rect.unit (s := S3x2x256x1024) ![a', b, 0, 0] S1x1x256x1024.size i₂) s₂) S256x1024 u₂)
              (.dma (SemArray.squeeze (s := S1x1) (cc0_scratch4.slice (Rect.unit (s := S3x2) ![a', b] S1x1.size i₃)) S_ u₃).sem) hsc)
            (.dma (SemArray.squeeze (s := S1x1) (cc0_scratch5.slice (Rect.unit (s := S3x2) ![a', b] S1x1.size i₄)) S_ u₄).sem) hsrc hdst hsem) k) Q) := by
  obtain ⟨rfl, h1, h2, h3⟩ := hh
  unfold xGo fly
  iintro #HR Hs ⟨Hd, Ht, Ha⟩ HO Hk
  iapply (wp_xsend m ρ K c n hn h p l a a' b h1 h2 h3) $$ HR Hs Hd Ht HO
  iintro ⟨Hc, HO⟩
  iapply Hk $$ [Ha Hc] HO
  isplitl [Ha]; · iexact Ha
  iexact Hc

/-- Waiting for a ring transfer to land: the slot comes in three shares. -/
theorem zrecv {α : Type} {Q : α → sProp 𝕄} {k : PUnit → Prog (TpuEff nD τ sig (Elt F) Λ₀ .tc) α}
    (c : Dev nD) (h : Fin 3) (h' : Fin 4) (p : Fin 2) (l : List Pay) (hl : ∀ x ∈ l, lvS (.dma (dsem (1, h, p))) < lvS x.2.1) (a b : ℕ) (ha : h' = h.succ ∧ a = h.val ∧ b = p.val)
    {sp : Space} {src : Memref sig .tc sp S256x1024 .i8} {r : Rect S4x2x256x1024} {hr hs i₃ u₃ hx hy} :
    recs m ρ K ⊢ iprop(fly c (1, h, p) -∗ ow c l
      -∗ (done c (1, h, p) -∗ zPts m ρ c h' p qz -∗ zPts m ρ c h' p qx -∗ zPts m ρ c h' p ql -∗ ow c l -∗ WP c (k ⟨⟩) Q)
      -∗ WP c (.op (.waitDma2 (SemArray.squeeze (s := S1x1) (cc0_scratch3.slice (Rect.unit (s := S3x2) ![a, b] S1x1.size i₃)) S_ u₃).sem
            src (Memref.squeeze (zM.slice r hr) S256x1024 hs) hx hy) k) Q) := by
  obtain ⟨rfl, h1, h2⟩ := ha
  unfold fly
  iintro #HR ⟨Ha, Hc⟩ HO Hk
  iapply (wp_dwait m ρ K sem3 zN c h p l hl a b h1 h2) $$ HR Ha Hc HO
  iintro ⟨Hd, Hp, HO⟩
  ihave Hp := (Entails.of_eq (show dmaPay m ρ c (1, h, p) = zPts m ρ c h.succ p fullShare from rfl)) $$ Hp
  ihave Hp := ((zPts_split m ρ c h.succ p).1) $$ Hp
  icases Hp with ⟨H1, H2, H3⟩
  iapply Hk $$ Hd H1 H2 H3 HO

/-- Waiting for a cross transfer to land. -/
theorem xrecv {α : Type} {Q : α → sProp 𝕄} {k : PUnit → Prog (TpuEff nD τ sig (Elt F) Λ₀ .tc) α}
    (c : Dev nD) (h : Fin 3) (p : Fin 2) (l : List Pay) (hl : ∀ x ∈ l, lvS (.dma (dsem (3, h, p))) < lvS x.2.1) (a b : ℕ) (ha : a = h.val ∧ b = p.val)
    {sp : Space} {src : Memref sig .tc sp S256x1024 .i8} {r : Rect S3x2x256x1024} {hr hs i₃ u₃ hx hy} :
    recs m ρ K ⊢ iprop(fly c (3, h, p) -∗ ow c l
      -∗ (done c (3, h, p) -∗ xPts m ρ c h p fullShare -∗ ow c l -∗ WP c (k ⟨⟩) Q)
      -∗ WP c (.op (.waitDma2 (SemArray.squeeze (s := S1x1) (cc0_scratch5.slice (Rect.unit (s := S3x2) ![a, b] S1x1.size i₃)) S_ u₃).sem
            src (Memref.squeeze (xM.slice r hr) S256x1024 hs) hx hy) k) Q) := by
  obtain ⟨h1, h2⟩ := ha
  unfold fly
  iintro #HR ⟨Ha, Hc⟩ HO Hk
  iapply (wp_dwait m ρ K sem5 xN c h p l hl a b h1 h2) $$ HR Ha Hc HO
  iintro ⟨Hd, Hp, HO⟩
  ihave Hp := (Entails.of_eq (show dmaPay m ρ c (3, h, p) = xPts m ρ c h p fullShare from rfl)) $$ Hp
  iapply Hk $$ Hd Hp HO

/-- Waiting for a ring transfer to have left: the share lent to it comes back. -/
theorem zsent {α : Type} {Q : α → sProp 𝕄} {k : PUnit → Prog (TpuEff nD τ sig (Elt F) Λ₀ .tc) α}
    (c : Dev nD) (h : Fin 3) (h' : Fin 4) (p : Fin 2) (l : List Pay) (hl : ∀ x ∈ l, lvS (.dma (dsem (0, h, p))) < lvS x.2.1) (a b : ℕ) (ha : h' = h.castSucc ∧ a = h.val ∧ b = p.val)
    {sp : Space} {src : Memref sig .tc sp S256x1024 .i8} {r : Rect S4x2x256x1024} {hr hs i₃ u₃ hx hy} :
    recs m ρ K ⊢ iprop(fly c (0, h, p) -∗ ow c l
      -∗ (done c (0, h, p) -∗ zPts m ρ c h' p qz -∗ ow c l -∗ WP c (k ⟨⟩) Q)
      -∗ WP c (.op (.waitDma2 (SemArray.squeeze (s := S1x1) (cc0_scratch2.slice (Rect.unit (s := S3x2) ![a, b] S1x1.size i₃)) S_ u₃).sem
            src (Memref.squeeze (zM.slice r hr) S256x1024 hs) hx hy) k) Q) := by
  obtain ⟨rfl, h1, h2⟩ := ha
  unfold fly
  iintro #HR ⟨Ha, Hc⟩ HO Hk
  iapply (wp_dwait m ρ K sem2 zN c h p l hl a b h1 h2) $$ HR Ha Hc HO
  iintro ⟨Hd, Hp, HO⟩
  ihave Hp := (Entails.of_eq (show dmaPay m ρ c (0, h, p) = zPts m ρ c h.castSucc p qz from rfl)) $$ Hp
  iapply Hk $$ Hd Hp HO

/-- Waiting for a cross transfer to have left. -/
theorem xsent {α : Type} {Q : α → sProp 𝕄} {k : PUnit → Prog (TpuEff nD τ sig (Elt F) Λ₀ .tc) α}
    (c : Dev nD) (h : Fin 3) (h' : Fin 4) (p : Fin 2) (l : List Pay) (hl : ∀ x ∈ l, lvS (.dma (dsem (2, h, p))) < lvS x.2.1) (a b : ℕ) (ha : h' = h.succ ∧ a = h.val ∧ b = p.val)
    {sp : Space} {src : Memref sig .tc sp S256x1024 .i8} {r : Rect S4x2x256x1024} {hr hs i₃ u₃ hx hy} :
    recs m ρ K ⊢ iprop(fly c (2, h, p) -∗ ow c l
      -∗ (done c (2, h, p) -∗ zPts m ρ c h' p qx -∗ ow c l -∗ WP c (k ⟨⟩) Q)
      -∗ WP c (.op (.waitDma2 (SemArray.squeeze (s := S1x1) (cc0_scratch4.slice (Rect.unit (s := S3x2) ![a, b] S1x1.size i₃)) S_ u₃).sem
            src (Memref.squeeze (zM.slice r hr) S256x1024 hs) hx hy) k) Q) := by
  obtain ⟨rfl, h1, h2⟩ := ha
  unfold fly
  iintro #HR ⟨Ha, Hc⟩ HO Hk
  iapply (wp_dwait m ρ K sem4 zN c h p l hl a b h1 h2) $$ HR Ha Hc HO
  iintro ⟨Hd, Hp, HO⟩
  ihave Hp := (Entails.of_eq (show dmaPay m ρ c (2, h, p) = zPts m ρ c h.succ p qx from rfl)) $$ Hp
  iapply Hk $$ Hd Hp HO

end Steps

/-! ## The payloads that occur under several names -/

/-- Each printed payload is one of the few that occur. -/
theorem stq_eq (X : Vec F S1x1x256x1024 .i8) : k0_pay17 (k0_pay15 X) = stq X := rfl
theorem ad19 (s : FVec F S256x1 .f32) (X : Vec F S1x1x256x1024 .i8) : k0_pay19 s X = addS s X := rfl
theorem st20 (X : Vec F S1x1x256x1024 .i8) : k0_pay20 X = stq X := rfl
theorem ad22 (s : FVec F S256x1 .f32) (X : Vec F S1x1x256x1024 .i8) : k0_pay22 s X = addS s X := rfl
theorem st23 (X : Vec F S1x1x256x1024 .i8) : k0_pay23 X = stq X := rfl
theorem ad25 (s : FVec F S256x1 .f32) (X : Vec F S1x1x256x1024 .i8) : k0_pay25 s X = addS s X := rfl
theorem st26 (X : Vec F S1x1x256x1024 .i8) : k0_pay26 X = stq X := rfl
theorem ex27 (X : Vec F S1x1x256x1024 .i8) : k0_pay27 X = k0_pay15 X := rfl
theorem ad28 (s : FVec F S256x1 .f32) (X : Vec F S1x1x256x1024 .i8) : k0_pay28 s X = addS s X := rfl
theorem ad31 (s : FVec F S256x1 .f32) (X : Vec F S1x1x256x1024 .i8) : k0_pay31 s X = addS s X := rfl
theorem st32 (X : Vec F S1x1x256x1024 .i8) : k0_pay32 X = stq X := rfl
theorem ad34 (s : FVec F S256x1 .f32) (X : Vec F S1x1x256x1024 .i8) : k0_pay34 s X = addS s X := rfl
theorem st35 (X : Vec F S1x1x256x1024 .i8) : k0_pay35 X = stq X := rfl
theorem ad37 (s : FVec F S256x1 .f32) (X : Vec F S1x1x256x1024 .i8) : k0_pay37 s X = addS s X := rfl
theorem st38 (X : Vec F S1x1x256x1024 .i8) : k0_pay38 X = stq X := rfl
theorem ad40 (s : FVec F S256x1 .f32) (X : Vec F S1x1x256x1024 .i8) : k0_pay40 s X = addS s X := rfl
theorem st41 (X : Vec F S1x1x256x1024 .i8) : k0_pay41 X = stq X := rfl
theorem ad43 (s : FVec F S256x1 .f32) (X : Vec F S1x1x256x1024 .i8) : k0_pay43 s X = addS s X := rfl
theorem st44 (X : Vec F S1x1x256x1024 .i8) : k0_pay44 X = stq X := rfl
theorem ad46 (s : FVec F S256x1 .f32) (X : Vec F S1x1x256x1024 .i8) : k0_pay46 s X = addS s X := rfl
theorem st47 (X : Vec F S1x1x256x1024 .i8) : k0_pay47 X = stq X := rfl
theorem ad49 (s : FVec F S256x1 .f32) (X : Vec F S1x1x256x1024 .i8) : k0_pay49 s X = addS s X := rfl
theorem st50 (X : Vec F S1x1x256x1024 .i8) : k0_pay50 X = stq X := rfl
theorem ad16 (s : FVec F S256x1 .f32) (X : Vec F S1x1x256x1024 .i8) : k0_pay16 s X = addS s X := rfl
theorem st29 (X : Vec F S1x1x256x1024 .i8) : k0_pay29 (k0_pay15 X) = stq X := rfl
theorem lg1 (c : Dev nD) : k0_pay5 (k0_pay2 (xin m ρ c)) (wPc m ρ c 1) = lgPc m ρ c 1 := rfl
theorem own14 (l : FVec F S256x1024 .f32) : k0_pay14 l = k0_pay11 l := rfl

/-! ## The payments outstanding at each point -/

/-- `ln` is what is still owed after `n` of the twelve copies were started. -/
abbrev l12 : List Pay := []
abbrev l11 : List Pay := payX 2 1 :: l12
abbrev l10 : List Pay := payX 2 0 :: l11
abbrev l9 : List Pay := payX 1 1 :: l10
abbrev l8 : List Pay := payZ 2 1 :: l9
abbrev l7 : List Pay := payX 1 0 :: l8
abbrev l6 : List Pay := payZ 2 0 :: l7
abbrev l5 : List Pay := payX 0 1 :: l6
abbrev l4 : List Pay := payZ 1 1 :: l5
abbrev l3 : List Pay := payX 0 0 :: l4
abbrev l2 : List Pay := payZ 1 0 :: l3
abbrev l1 : List Pay := payZ 0 1 :: l2
abbrev l0 : List Pay := payZ 0 0 :: l1

/-! ## The staged inputs -/

/-- The device's staged inputs, whole. -/
def aPts (c : Dev nD) : sProp 𝕄 := ((c : Thread nD τ).loc cc0_stg0_0) ↦{fullShare} xin m ρ c
/-- its block of `W`. -/
def wPts (c : Dev nD) : sProp 𝕄 := ((c : Thread nD τ).loc cc0_stg1_0) ↦{fullShare} win m ρ c

/-- Loading columns of `W`. -/
theorem wload {α : Type} {Q : α → sProp 𝕄} (c : Dev nD) {r : LoadRect S512x4096} {hl : wM.view.LoadsAt r}
    {k : (r.shape.Idx → Elt F .bf16) → Prog (TpuEff nD τ sig (Elt F) Λ₀ .tc) α} :
    wPts m ρ c ⊢ iprop((wPts m ρ c -∗ WP c (k (wM.view.readAt (Elt F) r (win m ρ c))) Q) -∗ WP c (.op (.load wM r hl) k) Q) := by
  iintro H Hk
  unfold wPts WP
  iapply (wp_load 𝒱₀ (c : Thread nD τ) none Set.univ (m := wM) (S := Finset.univ) (q := fullShare) (f := win m ρ c) (Finset.subset_univ _)) $$ H; iintro H
  iapply Hk; iexact H

end Cert.KProof

end
-- ==== Proof.Parts.lean ====
/-
# `Parts`: what each part of the body does

Each theorem states what a part takes, what it hands on, and the result it computes.
-/
module

public import proofs.«01_k».proof.Proof.Steps

@[expose] public section

set_option synthInstance.maxSize 4096

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Option J → ℕ)

section Parts

variable {i0 : aM.IsWhole} {i1 : wM.IsWhole} {i2 : oM.IsWhole} {i3 : zM.IsWhole} {i4 : xM.IsWhole}

/-- A finished part hands on its result. -/
theorem wret {α : Type} {Q : α → sProp 𝕄} (c : Dev nD) (r : α) : Q r ⊢ WP c (Prog.ret r) Q := by
  unfold WP
  rw [wp_ret]; iintro H; imodintro; iexact H

/-- A finished part hands on its result, named another way. -/
theorem wret_eq {α : Type} {Q : α → sProp 𝕄} (c : Dev nD) {r : α} (r' : α) (h : r = r') :
    Q r' ⊢ WP c (Prog.ret r) Q := by
  subst h; exact wret c _

/-- Part 3 of the body: the first piece's codes, their copy along the ring, and the second piece's logits. -/
theorem part3 {Q : (FVec F S256x1024 .f32) → sProp 𝕄} (c : Dev nD) (j1 : BitVec 32) (j2 : BitVec 32) (j3 : BitVec 32) :
    recs m ρ K ⊢ iprop(zAny c 0 0 -∗ zGo c 0 0 -∗ wPts m ρ c -∗ ow c l0
      -∗ (zPts m ρ c 0 0 qx -∗ zPts m ρ c 0 0 ql -∗ fly c (0, 0, 0) -∗ wPts m ρ c -∗ ow c l1 -∗ Q (lgPc m ρ c 1))
      -∗ WP c (k0_part3 (F := F) aM i0 wM i1 oM i2 zM i3 xM i4 cc0_scratch2 cc0_scratch3 cc0_scratch4 cc0_scratch5 c j1 j2 j3 (k0_pay2 (xin m ρ c)) (lgPc m ρ c 0)) Q) := by
  simp only [k0_part3_eq_skeleton]; unfold k0_part3_skel
  simp only [Prog.lift, Prog.bind_op, Prog.bind_ret, Prog.pure_eq_ret, ad19, st20, ad22, st23, ad25, st26, ex27, ad28, ad31, st32, ad34, st35, ad37, st38, ad40, st41, ad43, st44, ad46, st47, ad49, st50, ad16, st29, stq_eq, own14]
  iintro #HR A00 Gz00 W HO Hk
  iapply (wp_zload_any c 0 0 rfl) $$ A00
  iintro %v A00
  iapply (wp_zstore m ρ c 0 0 rfl rfl) $$ A00
  iintro H
  ihave H := ((zPts_split m ρ c 0 0).1) $$ H
  icases H with ⟨Z00z, Z00x, Z00l⟩
  iapply (zsend m ρ K c _ (dev4_eq c) 0 0 0 l1 0 1 0 (by decide)) $$ HR Z00z Gz00 HO
  iintro F000 HO
  iapply (wload m ρ c) $$ W
  iintro W
  iapply (wret_eq c (lgPc m ρ c 1) rfl)
  iapply Hk $$ Z00x Z00l F000 W HO

/-- Part 4 of the body: the second piece's codes, their copy, and the other half's logits. -/
theorem part4 {Q : (FVec F S256x2048 .f32) → sProp 𝕄} (c : Dev nD) (j1 : BitVec 32) (j2 : BitVec 32) (j3 : BitVec 32) :
    recs m ρ K ⊢ iprop(zAny c 0 1 -∗ zGo c 0 1 -∗ wPts m ρ c -∗ ow c l1
      -∗ (zPts m ρ c 0 1 qx -∗ zPts m ρ c 0 1 ql -∗ fly c (0, 0, 1) -∗ wPts m ρ c -∗ ow c l2 -∗ Q (lgOther m ρ c))
      -∗ WP c (k0_part4 (F := F) aM i0 wM i1 oM i2 zM i3 xM i4 cc0_scratch2 cc0_scratch3 cc0_scratch4 cc0_scratch5 c j1 j2 j3 (k0_pay2 (xin m ρ c)) (lgPc m ρ c 1)) Q) := by
  simp only [k0_part4_eq_skeleton]; unfold k0_part4_skel
  simp only [Prog.lift, Prog.bind_op, Prog.bind_ret, Prog.pure_eq_ret, ad19, st20, ad22, st23, ad25, st26, ex27, ad28, ad31, st32, ad34, st35, ad37, st38, ad40, st41, ad43, st44, ad46, st47, ad49, st50, ad16, st29, stq_eq, own14]
  iintro #HR A01 Gz01 W HO Hk
  iapply (wp_zload_any c 1 1 rfl) $$ A01
  iintro %v A01
  iapply (wp_zstore m ρ c 1 1 rfl rfl) $$ A01
  iintro H
  ihave H := ((zPts_split m ρ c 0 1).1) $$ H
  icases H with ⟨Z01z, Z01x, Z01l⟩
  iapply (zsend m ρ K c _ (dev5_eq c) 0 0 1 l2 0 1 1 (by decide)) $$ HR Z01z Gz01 HO
  iintro F001 HO
  iapply (wload m ρ c) $$ W
  iintro W
  iapply (wret_eq c (lgOther m ρ c) rfl)
  iapply Hk $$ Z01x Z01l F001 W HO

/-- Part 5 of the body: the exponentials of the device's own block, stored and summed. -/
theorem part5 {Q : (Σ' (_ : FVec F S256x1 .f32), BitVec 32) → sProp 𝕄} (c : Dev nD) (j1 : BitVec 32) (j2 : BitVec 32) (D : List (ℕ × ℕ)) :
    recs m ρ K ⊢ iprop(oPts m ρ c D
      -∗ (∀ r1, oPts m ρ c ((col c 0 (c.val / 16) 1, 1024) :: (col c 0 (c.val / 16) 0, 1024) :: (col c 0 (1 - c.val / 16) 0, 2048) :: D) -∗ Q ⟨k0_pay13 (lgPc m ρ c 0) (lgPc m ρ c 1) (lgOther m ρ c), r1⟩)
      -∗ WP c (k0_part5 (F := F) aM i0 wM i1 oM i2 zM i3 xM i4 cc0_scratch2 cc0_scratch3 cc0_scratch4 cc0_scratch5 c j1 j2 (lgPc m ρ c 0) (lgPc m ρ c 1) (lgOther m ρ c)) Q) := by
  simp only [k0_part5_eq_skeleton]; unfold k0_part5_skel
  simp only [Prog.lift, Prog.bind_op, Prog.bind_ret, Prog.pure_eq_ret, ad19, st20, ad22, st23, ad25, st26, ex27, ad28, ad31, st32, ad34, st35, ad37, st38, ad40, st41, ad43, st44, ad46, st47, ad49, st50, ad16, st29, stq_eq, own14]
  iintro #HR O Hk
  iapply (wp_oload m ρ c (D)) $$ O
  iintro %v O
  iapply (wp_ostore m ρ c (D) (col c 0 (1 - c.val / 16) 0) 2048 (off3_eq c) rfl (own_other m ρ c (off3_eq c)) rfl) $$ O
  iintro O
  iapply (wp_oload m ρ c ((col c 0 (1 - c.val / 16) 0, 2048) :: D)) $$ O
  iintro %v O
  iapply (wp_ostore m ρ c ((col c 0 (1 - c.val / 16) 0, 2048) :: D) (col c 0 (c.val / 16) 0) 1024 (off4_eq c 0) rfl (own_piece m ρ c 0 (off4_eq c 0)) rfl) $$ O
  iintro O
  iapply (wp_oload m ρ c ((col c 0 (c.val / 16) 0, 1024) :: (col c 0 (1 - c.val / 16) 0, 2048) :: D)) $$ O
  iintro %v O
  iapply (wp_ostore m ρ c ((col c 0 (c.val / 16) 0, 1024) :: (col c 0 (1 - c.val / 16) 0, 2048) :: D) (col c 0 (c.val / 16) 1) 1024 (off4_eq c 1) rfl (own_piece m ρ c 1 (off4_eq c 1)) rfl) $$ O
  iintro O
  iapply wret
  iapply Hk $$ %_ O

/-- Part 6 of the body: a piece of the ring is received, a copy along the ring is started. -/
theorem part6 {Q : (BitVec 32) → sProp 𝕄} (c : Dev nD) (j1 : BitVec 32) (j2 : BitVec 32) (j3 : BitVec 32) (j4 : BitVec 32) (j5 : BitVec 32) :
    recs m ρ K ⊢ iprop(fly c (1, 0, 0) -∗ zGo c 1 0 -∗ ow c l2
      -∗ (∀ r1, done c (1, 0, 0) -∗ zPts m ρ c 1 0 qx -∗ zPts m ρ c 1 0 ql -∗ fly c (0, 1, 0) -∗ ow c l3 -∗ Q r1)
      -∗ WP c (k0_part6 (F := F) aM i0 wM i1 oM i2 zM i3 xM i4 cc0_scratch2 cc0_scratch3 cc0_scratch4 cc0_scratch5 c j1 j2 j3 j4 j5) Q) := by
  simp only [k0_part6_eq_skeleton]; unfold k0_part6_skel
  simp only [Prog.lift, Prog.bind_op, Prog.bind_ret, Prog.pure_eq_ret, ad19, st20, ad22, st23, ad25, st26, ex27, ad28, ad31, st32, ad34, st35, ad37, st38, ad40, st41, ad43, st44, ad46, st47, ad49, st50, ad16, st29, stq_eq, own14]
  iintro #HR F100 Gz10 HO Hk
  iapply (zrecv m ρ K c 0 1 0 l2 (by decide) 0 0 (by decide)) $$ HR F100 HO
  iintro D100 Z10z Z10x Z10l HO
  iapply (zsend m ρ K c _ (dev6_eq c) 1 1 0 l3 1 2 0 (by decide)) $$ HR Z10z Gz10 HO
  iintro F010 HO
  iapply wret
  iapply Hk $$ %_ D100 Z10x Z10l F010 HO

/-- Part 7 of the body: a copy across `x` is started, a received piece is loaded. -/
theorem part7 {Q : (Σ' (_ : FVec F S256x1024 .f32) (_ : FVec F S256x1 .f32) (_ : BitVec 32), BitVec 32) → sProp 𝕄} (c : Dev nD) (j1 : BitVec 32) (j2 : BitVec 32) (j3 : BitVec 32) (s : FVec F S256x1 .f32) (j4 : BitVec 32) :
    recs m ρ K ⊢ iprop(zPts m ρ c 1 0 qx -∗ xGo c 0 0 -∗ zPts m ρ c 1 0 ql -∗ ow c l3
      -∗ (∀ r1 r2, fly c (2, 0, 0) -∗ zPts m ρ c 1 0 ql -∗ ow c l4 -∗ Q ⟨k0_pay15 (zc m ρ c 1 0), addS s (zc m ρ c 1 0), r1, r2⟩)
      -∗ WP c (k0_part7 (F := F) aM i0 wM i1 oM i2 zM i3 xM i4 cc0_scratch2 cc0_scratch3 cc0_scratch4 cc0_scratch5 c j1 j2 j3 s j4) Q) := by
  simp only [k0_part7_eq_skeleton]; unfold k0_part7_skel
  simp only [Prog.lift, Prog.bind_op, Prog.bind_ret, Prog.pure_eq_ret, ad19, st20, ad22, st23, ad25, st26, ex27, ad28, ad31, st32, ad34, st35, ad37, st38, ad40, st41, ad43, st44, ad46, st47, ad49, st50, ad16, st29, stq_eq, own14]
  iintro #HR Z10x Gx00 Z10l HO Hk
  iapply (xsend m ρ K c _ (dev7_eq c) 0 1 0 l4 1 0 0 (by decide)) $$ HR Z10x Gx00 HO
  iintro F200 HO
  iapply (wp_zload m ρ c 1 0 ql 1 0 rfl rfl) $$ Z10l
  iintro Z10l
  rw [show zc m ρ c ((1 : Fin 4).val) 0 = zc m ρ c 1 0 from rfl]
  iapply wret
  iapply Hk $$ %_ %_ F200 Z10l HO

/-- Part 8 of the body: exponentials are stored, a piece of the ring is received. -/
theorem part8 {Q : (PUnit) → sProp 𝕄} (c : Dev nD) (j1 : BitVec 32) (j2 : BitVec 32) (j3 : BitVec 32) (j4 : BitVec 32) (j5 : BitVec 32) (D : List (ℕ × ℕ)) :
    recs m ρ K ⊢ iprop(fly c (1, 0, 1) -∗ oPts m ρ c D -∗ ow c l4
      -∗ (done c (1, 0, 1) -∗ zPts m ρ c 1 1 qz -∗ zPts m ρ c 1 1 qx -∗ zPts m ρ c 1 1 ql -∗ oPts m ρ c ((col c 1 (c.val / 16) 0, 1024) :: D) -∗ ow c l4 -∗ Q ⟨⟩)
      -∗ WP c (k0_part8 (F := F) aM i0 wM i1 oM i2 zM i3 xM i4 cc0_scratch2 cc0_scratch3 cc0_scratch4 cc0_scratch5 c j1 j2 j3 (k0_pay15 (zc m ρ c 1 0)) j4 j5) Q) := by
  simp only [k0_part8_eq_skeleton]; unfold k0_part8_skel
  simp only [Prog.lift, Prog.bind_op, Prog.bind_ret, Prog.pure_eq_ret, ad19, st20, ad22, st23, ad25, st26, ex27, ad28, ad31, st32, ad34, st35, ad37, st38, ad40, st41, ad43, st44, ad46, st47, ad49, st50, ad16, st29, stq_eq, own14]
  iintro #HR F101 O HO Hk
  iapply (wp_oload m ρ c (D)) $$ O
  iintro %v O
  iapply (wp_ostore m ρ c (D) (col c 1 (c.val / 16) 0) 1024 (off5_eq c 0 0) rfl (stq_z m ρ c 1 0 (by decide) (by decide) (off5_eq c 0 0)) rfl) $$ O
  iintro O
  iapply (zrecv m ρ K c 0 1 1 l4 (by decide) 0 1 (by decide)) $$ HR F101 HO
  iintro D101 Z11z Z11x Z11l HO
  iapply wret
  iapply Hk $$ D101 Z11z Z11x Z11l O HO

/-- Part 9 of the body: a copy along the ring is started, a copy across `x` is started, a received piece is loaded. -/
theorem part9 {Q : (Σ' (_ : BitVec 32), Vec F S1x1x256x1024 .i8) → sProp 𝕄} (c : Dev nD) (j1 : BitVec 32) (j2 : BitVec 32) (j3 : BitVec 32) :
    recs m ρ K ⊢ iprop(zPts m ρ c 1 1 qz -∗ zGo c 1 1 -∗ zPts m ρ c 1 1 qx -∗ xGo c 0 1 -∗ zPts m ρ c 1 1 ql -∗ ow c l4
      -∗ (∀ r1, fly c (0, 1, 1) -∗ fly c (2, 0, 1) -∗ zPts m ρ c 1 1 ql -∗ ow c l6 -∗ Q ⟨r1, zc m ρ c 1 1⟩)
      -∗ WP c (k0_part9 (F := F) aM i0 wM i1 oM i2 zM i3 xM i4 cc0_scratch2 cc0_scratch3 cc0_scratch4 cc0_scratch5 c j1 j2 j3) Q) := by
  simp only [k0_part9_eq_skeleton]; unfold k0_part9_skel
  simp only [Prog.lift, Prog.bind_op, Prog.bind_ret, Prog.pure_eq_ret, ad19, st20, ad22, st23, ad25, st26, ex27, ad28, ad31, st32, ad34, st35, ad37, st38, ad40, st41, ad43, st44, ad46, st47, ad49, st50, ad16, st29, stq_eq, own14]
  iintro #HR Z11z Gz11 Z11x Gx01 Z11l HO Hk
  iapply (zsend m ρ K c _ (dev8_eq c) 1 1 1 l5 1 2 1 (by decide)) $$ HR Z11z Gz11 HO
  iintro F011 HO
  iapply (xsend m ρ K c _ (dev9_eq c) 0 1 1 l6 1 0 1 (by decide)) $$ HR Z11x Gx01 HO
  iintro F201 HO
  iapply (wp_zload m ρ c 1 1 ql 1 1 rfl rfl) $$ Z11l
  iintro Z11l
  rw [show zc m ρ c ((1 : Fin 4).val) 1 = zc m ρ c 1 1 from rfl]
  iapply wret
  iapply Hk $$ %_ F011 F201 Z11l HO

/-- Part 10 of the body: exponentials are stored, a piece of the other `x` is received. -/
theorem part10 {Q : (Σ' (_ : FVec F S256x1 .f32) (_ : BitVec 32) (_ : BitVec 32), BitVec 32) → sProp 𝕄} (c : Dev nD) (j1 : BitVec 32) (j2 : BitVec 32) (j3 : BitVec 32) (j4 : BitVec 32) (s : FVec F S256x1 .f32) (j5 : BitVec 32) (D : List (ℕ × ℕ)) :
    recs m ρ K ⊢ iprop(fly c (3, 0, 0) -∗ oPts m ρ c D -∗ ow c l6
      -∗ (∀ r1 r2 r3, done c (3, 0, 0) -∗ xPts m ρ c 0 0 fullShare -∗ oPts m ρ c ((col c 1 (c.val / 16) 1, 1024) :: D) -∗ ow c l6 -∗ Q ⟨addS s (zc m ρ c 1 1), r1, r2, r3⟩)
      -∗ WP c (k0_part10 (F := F) aM i0 wM i1 oM i2 zM i3 xM i4 cc0_scratch2 cc0_scratch3 cc0_scratch4 cc0_scratch5 c j1 j2 j3 j4 s j5 (zc m ρ c 1 1)) Q) := by
  simp only [k0_part10_eq_skeleton]; unfold k0_part10_skel
  simp only [Prog.lift, Prog.bind_op, Prog.bind_ret, Prog.pure_eq_ret, ad19, st20, ad22, st23, ad25, st26, ex27, ad28, ad31, st32, ad34, st35, ad37, st38, ad40, st41, ad43, st44, ad46, st47, ad49, st50, ad16, st29, stq_eq, own14]
  iintro #HR F300 O HO Hk
  iapply (wp_oload m ρ c (D)) $$ O
  iintro %v O
  iapply (wp_ostore m ρ c (D) (col c 1 (c.val / 16) 1) 1024 (off5_eq c 0 1) rfl (stq_z m ρ c 1 1 (by decide) (by decide) (off5_eq c 0 1)) rfl) $$ O
  iintro O
  iapply (xrecv m ρ K c 0 0 l6 (by decide) 0 0 (by decide)) $$ HR F300 HO
  iintro D300 X00 HO
  iapply wret
  iapply Hk $$ %_ %_ %_ D300 X00 O HO

/-- Part 11 of the body: a received piece of the other `x` is loaded, exponentials are stored. -/
theorem part11 {Q : (FVec F S256x1 .f32) → sProp 𝕄} (c : Dev nD) (j1 : BitVec 32) (j2 : BitVec 32) (j3 : BitVec 32) (s : FVec F S256x1 .f32) (j4 : BitVec 32) (j5 : BitVec 32) (j6 : BitVec 32) (D : List (ℕ × ℕ)) :
    recs m ρ K ⊢ iprop(xPts m ρ c 0 0 fullShare -∗ oPts m ρ c D
      -∗ (xPts m ρ c 0 0 fullShare -∗ oPts m ρ c ((col c 1 (1 - c.val / 16) 0, 1024) :: D) -∗ Q (addS s (xc m ρ c 1 0)))
      -∗ WP c (k0_part11 (F := F) aM i0 wM i1 oM i2 zM i3 xM i4 cc0_scratch2 cc0_scratch3 cc0_scratch4 cc0_scratch5 c j1 j2 j3 s j4 j5 j6) Q) := by
  simp only [k0_part11_eq_skeleton]; unfold k0_part11_skel
  simp only [Prog.lift, Prog.bind_op, Prog.bind_ret, Prog.pure_eq_ret, ad19, st20, ad22, st23, ad25, st26, ex27, ad28, ad31, st32, ad34, st35, ad37, st38, ad40, st41, ad43, st44, ad46, st47, ad49, st50, ad16, st29, stq_eq, own14]
  iintro #HR X00 O Hk
  iapply (wp_xload m ρ c 0 0 fullShare 0 0 rfl rfl) $$ X00
  iintro X00
  rw [show xc m ρ c ((0 : Fin 3).val + 1) 0 = xc m ρ c 1 0 from rfl]
  iapply (wp_oload m ρ c (D)) $$ O
  iintro %v O
  iapply (wp_ostore m ρ c (D) (col c 1 (1 - c.val / 16) 0) 1024 (off6_eq c 0 0) rfl (stq_x m ρ c 1 0 (by decide) (by decide) (off6_eq c 0 0)) rfl) $$ O
  iintro O
  iapply wret
  iapply Hk $$ X00 O

/-- Part 12 of the body: a piece of the ring is received, a copy along the ring is started. -/
theorem part12 {Q : (PUnit) → sProp 𝕄} (c : Dev nD) (j1 : BitVec 32) (j2 : BitVec 32) (j3 : BitVec 32) (j4 : BitVec 32) (j5 : BitVec 32) :
    recs m ρ K ⊢ iprop(fly c (1, 1, 0) -∗ zGo c 2 0 -∗ ow c l6
      -∗ (done c (1, 1, 0) -∗ zPts m ρ c 2 0 qx -∗ zPts m ρ c 2 0 ql -∗ fly c (0, 2, 0) -∗ ow c l7 -∗ Q ⟨⟩)
      -∗ WP c (k0_part12 (F := F) aM i0 wM i1 oM i2 zM i3 xM i4 cc0_scratch2 cc0_scratch3 cc0_scratch4 cc0_scratch5 c j1 j2 j3 j4 j5) Q) := by
  simp only [k0_part12_eq_skeleton]; unfold k0_part12_skel
  simp only [Prog.lift, Prog.bind_op, Prog.bind_ret, Prog.pure_eq_ret, ad19, st20, ad22, st23, ad25, st26, ex27, ad28, ad31, st32, ad34, st35, ad37, st38, ad40, st41, ad43, st44, ad46, st47, ad49, st50, ad16, st29, stq_eq, own14]
  iintro #HR F110 Gz20 HO Hk
  iapply (zrecv m ρ K c 1 2 0 l6 (by decide) 1 0 (by decide)) $$ HR F110 HO
  iintro D110 Z20z Z20x Z20l HO
  iapply (zsend m ρ K c _ (dev10_eq c) 2 2 0 l7 2 3 0 (by decide)) $$ HR Z20z Gz20 HO
  iintro F020 HO
  iapply wret
  iapply Hk $$ D110 Z20x Z20l F020 HO

/-- Part 13 of the body: a copy across `x` is started, a received piece is loaded, exponentials are stored. -/
theorem part13 {Q : (FVec F S256x1 .f32) → sProp 𝕄} (c : Dev nD) (j1 : BitVec 32) (j2 : BitVec 32) (s : FVec F S256x1 .f32) (D : List (ℕ × ℕ)) :
    recs m ρ K ⊢ iprop(zPts m ρ c 2 0 qx -∗ xGo c 1 0 -∗ zPts m ρ c 2 0 ql -∗ oPts m ρ c D -∗ ow c l7
      -∗ (fly c (2, 1, 0) -∗ zPts m ρ c 2 0 ql -∗ oPts m ρ c ((col c 2 (c.val / 16) 0, 1024) :: D) -∗ ow c l8 -∗ Q (addS s (zc m ρ c 2 0)))
      -∗ WP c (k0_part13 (F := F) aM i0 wM i1 oM i2 zM i3 xM i4 cc0_scratch2 cc0_scratch3 cc0_scratch4 cc0_scratch5 c j1 j2 s) Q) := by
  simp only [k0_part13_eq_skeleton]; unfold k0_part13_skel
  simp only [Prog.lift, Prog.bind_op, Prog.bind_ret, Prog.pure_eq_ret, ad19, st20, ad22, st23, ad25, st26, ex27, ad28, ad31, st32, ad34, st35, ad37, st38, ad40, st41, ad43, st44, ad46, st47, ad49, st50, ad16, st29, stq_eq, own14]
  iintro #HR Z20x Gx10 Z20l O HO Hk
  iapply (xsend m ρ K c _ (dev11_eq c) 1 2 0 l8 2 1 0 (by decide)) $$ HR Z20x Gx10 HO
  iintro F210 HO
  iapply (wp_zload m ρ c 2 0 ql 2 0 rfl rfl) $$ Z20l
  iintro Z20l
  rw [show zc m ρ c ((2 : Fin 4).val) 0 = zc m ρ c 2 0 from rfl]
  iapply (wp_oload m ρ c (D)) $$ O
  iintro %v O
  iapply (wp_ostore m ρ c (D) (col c 2 (c.val / 16) 0) 1024 (off5_eq c 1 0) rfl (stq_z m ρ c 2 0 (by decide) (by decide) (off5_eq c 1 0)) rfl) $$ O
  iintro O
  iapply wret
  iapply Hk $$ F210 Z20l O HO

/-- Part 14 of the body: a piece of the other `x` is received, a received piece of the other `x` is loaded. -/
theorem part14 {Q : (Σ' (_ : FVec F S256x1024 .f32) (_ : FVec F S256x1 .f32) (_ : BitVec 32), BitVec 32) → sProp 𝕄} (c : Dev nD) (j1 : BitVec 32) (j2 : BitVec 32) (j3 : BitVec 32) (j4 : BitVec 32) (s : FVec F S256x1 .f32) :
    recs m ρ K ⊢ iprop(fly c (3, 0, 1) -∗ ow c l8
      -∗ (∀ r1 r2, done c (3, 0, 1) -∗ xPts m ρ c 0 1 fullShare -∗ ow c l8 -∗ Q ⟨k0_pay15 (xc m ρ c 1 1), addS s (xc m ρ c 1 1), r1, r2⟩)
      -∗ WP c (k0_part14 (F := F) aM i0 wM i1 oM i2 zM i3 xM i4 cc0_scratch2 cc0_scratch3 cc0_scratch4 cc0_scratch5 j1 j2 j3 j4 s) Q) := by
  simp only [k0_part14_eq_skeleton]; unfold k0_part14_skel
  simp only [Prog.lift, Prog.bind_op, Prog.bind_ret, Prog.pure_eq_ret, ad19, st20, ad22, st23, ad25, st26, ex27, ad28, ad31, st32, ad34, st35, ad37, st38, ad40, st41, ad43, st44, ad46, st47, ad49, st50, ad16, st29, stq_eq, own14]
  iintro #HR F301 HO Hk
  iapply (xrecv m ρ K c 0 1 l8 (by decide) 0 1 (by decide)) $$ HR F301 HO
  iintro D301 X01 HO
  iapply (wp_xload m ρ c 0 1 fullShare 0 1 rfl rfl) $$ X01
  iintro X01
  rw [show xc m ρ c ((0 : Fin 3).val + 1) 1 = xc m ρ c 1 1 from rfl]
  iapply wret
  iapply Hk $$ %_ %_ D301 X01 HO

/-- Part 15 of the body: exponentials are stored, a piece of the ring is received. -/
theorem part15 {Q : (PUnit) → sProp 𝕄} (c : Dev nD) (j1 : BitVec 32) (j2 : BitVec 32) (j3 : BitVec 32) (j4 : BitVec 32) (j5 : BitVec 32) (D : List (ℕ × ℕ)) :
    recs m ρ K ⊢ iprop(fly c (1, 1, 1) -∗ oPts m ρ c D -∗ ow c l8
      -∗ (done c (1, 1, 1) -∗ zPts m ρ c 2 1 qz -∗ zPts m ρ c 2 1 qx -∗ zPts m ρ c 2 1 ql -∗ oPts m ρ c ((col c 1 (1 - c.val / 16) 1, 1024) :: D) -∗ ow c l8 -∗ Q ⟨⟩)
      -∗ WP c (k0_part15 (F := F) aM i0 wM i1 oM i2 zM i3 xM i4 cc0_scratch2 cc0_scratch3 cc0_scratch4 cc0_scratch5 c j1 j2 j3 (k0_pay15 (xc m ρ c 1 1)) j4 j5) Q) := by
  simp only [k0_part15_eq_skeleton]; unfold k0_part15_skel
  simp only [Prog.lift, Prog.bind_op, Prog.bind_ret, Prog.pure_eq_ret, ad19, st20, ad22, st23, ad25, st26, ex27, ad28, ad31, st32, ad34, st35, ad37, st38, ad40, st41, ad43, st44, ad46, st47, ad49, st50, ad16, st29, stq_eq, own14]
  iintro #HR F111 O HO Hk
  iapply (wp_oload m ρ c (D)) $$ O
  iintro %v O
  iapply (wp_ostore m ρ c (D) (col c 1 (1 - c.val / 16) 1) 1024 (off6_eq c 0 1) rfl (stq_x m ρ c 1 1 (by decide) (by decide) (off6_eq c 0 1)) rfl) $$ O
  iintro O
  iapply (zrecv m ρ K c 1 2 1 l8 (by decide) 1 1 (by decide)) $$ HR F111 HO
  iintro D111 Z21z Z21x Z21l HO
  iapply wret
  iapply Hk $$ D111 Z21z Z21x Z21l O HO

/-- Part 16 of the body: a copy along the ring is started, a copy across `x` is started. -/
theorem part16 {Q : (BitVec 32) → sProp 𝕄} (c : Dev nD) (j1 : BitVec 32) (j2 : BitVec 32) (j3 : BitVec 32) :
    recs m ρ K ⊢ iprop(zPts m ρ c 2 1 qz -∗ zGo c 2 1 -∗ zPts m ρ c 2 1 qx -∗ xGo c 1 1 -∗ ow c l8
      -∗ (∀ r1, fly c (0, 2, 1) -∗ fly c (2, 1, 1) -∗ ow c l10 -∗ Q r1)
      -∗ WP c (k0_part16 (F := F) aM i0 wM i1 oM i2 zM i3 xM i4 cc0_scratch2 cc0_scratch3 cc0_scratch4 cc0_scratch5 c j1 j2 j3) Q) := by
  simp only [k0_part16_eq_skeleton]; unfold k0_part16_skel
  simp only [Prog.lift, Prog.bind_op, Prog.bind_ret, Prog.pure_eq_ret, ad19, st20, ad22, st23, ad25, st26, ex27, ad28, ad31, st32, ad34, st35, ad37, st38, ad40, st41, ad43, st44, ad46, st47, ad49, st50, ad16, st29, stq_eq, own14]
  iintro #HR Z21z Gz21 Z21x Gx11 HO Hk
  iapply (zsend m ρ K c _ (dev12_eq c) 2 2 1 l9 2 3 1 (by decide)) $$ HR Z21z Gz21 HO
  iintro F021 HO
  iapply (xsend m ρ K c _ (dev13_eq c) 1 2 1 l10 2 1 1 (by decide)) $$ HR Z21x Gx11 HO
  iintro F211 HO
  iapply wret
  iapply Hk $$ %_ F021 F211 HO

/-- Part 17 of the body: a received piece is loaded, exponentials are stored, a piece of the other `x` is received. -/
theorem part17 {Q : (Σ' (_ : FVec F S256x1 .f32) (_ : BitVec 32) (_ : BitVec 32), BitVec 1) → sProp 𝕄} (c : Dev nD) (j1 : BitVec 32) (j2 : BitVec 32) (j3 : BitVec 32) (j4 : BitVec 32) (s : FVec F S256x1 .f32) (j5 : BitVec 32) (D : List (ℕ × ℕ)) :
    recs m ρ K ⊢ iprop(zPts m ρ c 2 1 ql -∗ fly c (3, 1, 0) -∗ oPts m ρ c D -∗ ow c l10
      -∗ (∀ r1 r2 r3, zPts m ρ c 2 1 ql -∗ done c (3, 1, 0) -∗ xPts m ρ c 1 0 fullShare -∗ oPts m ρ c ((col c 2 (c.val / 16) 1, 1024) :: D) -∗ ow c l10 -∗ Q ⟨addS s (zc m ρ c 2 1), r1, r2, r3⟩)
      -∗ WP c (k0_part17 (F := F) aM i0 wM i1 oM i2 zM i3 xM i4 cc0_scratch2 cc0_scratch3 cc0_scratch4 cc0_scratch5 c j1 j2 j3 j4 s j5) Q) := by
  simp only [k0_part17_eq_skeleton]; unfold k0_part17_skel
  simp only [Prog.lift, Prog.bind_op, Prog.bind_ret, Prog.pure_eq_ret, ad19, st20, ad22, st23, ad25, st26, ex27, ad28, ad31, st32, ad34, st35, ad37, st38, ad40, st41, ad43, st44, ad46, st47, ad49, st50, ad16, st29, stq_eq, own14]
  iintro #HR Z21l F310 O HO Hk
  iapply (wp_zload m ρ c 2 1 ql 2 1 rfl rfl) $$ Z21l
  iintro Z21l
  rw [show zc m ρ c ((2 : Fin 4).val) 1 = zc m ρ c 2 1 from rfl]
  iapply (wp_oload m ρ c (D)) $$ O
  iintro %v O
  iapply (wp_ostore m ρ c (D) (col c 2 (c.val / 16) 1) 1024 (off5_eq c 1 1) rfl (stq_z m ρ c 2 1 (by decide) (by decide) (off5_eq c 1 1)) rfl) $$ O
  iintro O
  iapply (xrecv m ρ K c 1 0 l10 (by decide) 1 0 (by decide)) $$ HR F310 HO
  iintro D310 X10 HO
  iapply wret
  iapply Hk $$ %_ %_ %_ Z21l D310 X10 O HO

/-- Part 18 of the body: a received piece of the other `x` is loaded, exponentials are stored. -/
theorem part18 {Q : (FVec F S256x1 .f32) → sProp 𝕄} (c : Dev nD) (j1 : BitVec 32) (j2 : BitVec 32) (j3 : BitVec 32) (s : FVec F S256x1 .f32) (j4 : BitVec 32) (j5 : BitVec 32) (b : BitVec 1) (D : List (ℕ × ℕ)) :
    recs m ρ K ⊢ iprop(xPts m ρ c 1 0 fullShare -∗ oPts m ρ c D
      -∗ (xPts m ρ c 1 0 fullShare -∗ oPts m ρ c ((col c 2 (1 - c.val / 16) 0, 1024) :: D) -∗ Q (addS s (xc m ρ c 2 0)))
      -∗ WP c (k0_part18 (F := F) aM i0 wM i1 oM i2 zM i3 xM i4 cc0_scratch2 cc0_scratch3 cc0_scratch4 cc0_scratch5 c j1 j2 j3 s j4 j5 b) Q) := by
  simp only [k0_part18_eq_skeleton]; unfold k0_part18_skel
  simp only [Prog.lift, Prog.bind_op, Prog.bind_ret, Prog.pure_eq_ret, ad19, st20, ad22, st23, ad25, st26, ex27, ad28, ad31, st32, ad34, st35, ad37, st38, ad40, st41, ad43, st44, ad46, st47, ad49, st50, ad16, st29, stq_eq, own14]
  iintro #HR X10 O Hk
  iapply (wp_xload m ρ c 1 0 fullShare 1 0 rfl rfl) $$ X10
  iintro X10
  rw [show xc m ρ c ((1 : Fin 3).val + 1) 0 = xc m ρ c 2 0 from rfl]
  iapply (wp_oload m ρ c (D)) $$ O
  iintro %v O
  iapply (wp_ostore m ρ c (D) (col c 2 (1 - c.val / 16) 0) 1024 (off6_eq c 1 0) rfl (stq_x m ρ c 2 0 (by decide) (by decide) (off6_eq c 1 0)) rfl) $$ O
  iintro O
  iapply wret
  iapply Hk $$ X10 O

/-- Part 19 of the body: a piece of the ring is received, a copy across `x` is started. -/
theorem part19 {Q : (BitVec 32) → sProp 𝕄} (c : Dev nD) (j1 : BitVec 32) (j2 : BitVec 32) (j3 : BitVec 32) :
    recs m ρ K ⊢ iprop(fly c (1, 2, 0) -∗ xGo c 2 0 -∗ ow c l10
      -∗ (∀ r1, done c (1, 2, 0) -∗ zPts m ρ c 3 0 qz -∗ zPts m ρ c 3 0 ql -∗ fly c (2, 2, 0) -∗ ow c l11 -∗ Q r1)
      -∗ WP c (k0_part19 (F := F) aM i0 wM i1 oM i2 zM i3 xM i4 cc0_scratch2 cc0_scratch3 cc0_scratch4 cc0_scratch5 c j1 j2 j3) Q) := by
  simp only [k0_part19_eq_skeleton]; unfold k0_part19_skel
  simp only [Prog.lift, Prog.bind_op, Prog.bind_ret, Prog.pure_eq_ret, ad19, st20, ad22, st23, ad25, st26, ex27, ad28, ad31, st32, ad34, st35, ad37, st38, ad40, st41, ad43, st44, ad46, st47, ad49, st50, ad16, st29, stq_eq, own14]
  iintro #HR F120 Gx20 HO Hk
  iapply (zrecv m ρ K c 2 3 0 l10 (by decide) 2 0 (by decide)) $$ HR F120 HO
  iintro D120 Z30z Z30x Z30l HO
  iapply (xsend m ρ K c _ (dev14_eq c) 2 3 0 l11 3 2 0 (by decide)) $$ HR Z30x Gx20 HO
  iintro F220 HO
  iapply wret
  iapply Hk $$ %_ D120 Z30z Z30l F220 HO

/-- Part 20 of the body: a received piece is loaded, exponentials are stored, a piece of the other `x` is received. -/
theorem part20 {Q : (Σ' (_ : FVec F S256x1 .f32) (_ : BitVec 32) (_ : BitVec 32), BitVec 32) → sProp 𝕄} (c : Dev nD) (j1 : BitVec 32) (j2 : BitVec 32) (j3 : BitVec 32) (j4 : BitVec 32) (s : FVec F S256x1 .f32) (j5 : BitVec 32) (D : List (ℕ × ℕ)) :
    recs m ρ K ⊢ iprop(zPts m ρ c 3 0 ql -∗ fly c (3, 1, 1) -∗ oPts m ρ c D -∗ ow c l11
      -∗ (∀ r1 r2 r3, zPts m ρ c 3 0 ql -∗ done c (3, 1, 1) -∗ xPts m ρ c 1 1 fullShare -∗ oPts m ρ c ((col c 3 (c.val / 16) 0, 1024) :: D) -∗ ow c l11 -∗ Q ⟨addS s (zc m ρ c 3 0), r1, r2, r3⟩)
      -∗ WP c (k0_part20 (F := F) aM i0 wM i1 oM i2 zM i3 xM i4 cc0_scratch2 cc0_scratch3 cc0_scratch4 cc0_scratch5 c j1 j2 j3 j4 s j5) Q) := by
  simp only [k0_part20_eq_skeleton]; unfold k0_part20_skel
  simp only [Prog.lift, Prog.bind_op, Prog.bind_ret, Prog.pure_eq_ret, ad19, st20, ad22, st23, ad25, st26, ex27, ad28, ad31, st32, ad34, st35, ad37, st38, ad40, st41, ad43, st44, ad46, st47, ad49, st50, ad16, st29, stq_eq, own14]
  iintro #HR Z30l F311 O HO Hk
  iapply (wp_zload m ρ c 3 0 ql 3 0 rfl rfl) $$ Z30l
  iintro Z30l
  rw [show zc m ρ c ((3 : Fin 4).val) 0 = zc m ρ c 3 0 from rfl]
  iapply (wp_oload m ρ c (D)) $$ O
  iintro %v O
  iapply (wp_ostore m ρ c (D) (col c 3 (c.val / 16) 0) 1024 (off5_eq c 2 0) rfl (stq_z m ρ c 3 0 (by decide) (by decide) (off5_eq c 2 0)) rfl) $$ O
  iintro O
  iapply (xrecv m ρ K c 1 1 l11 (by decide) 1 1 (by decide)) $$ HR F311 HO
  iintro D311 X11 HO
  iapply wret
  iapply Hk $$ %_ %_ %_ Z30l D311 X11 O HO

/-- Part 21 of the body: a received piece of the other `x` is loaded, exponentials are stored. -/
theorem part21 {Q : (Σ' (_ : FVec F S256x1 .f32) (_ : BitVec 32), BitVec 32) → sProp 𝕄} (c : Dev nD) (j1 : BitVec 32) (j2 : BitVec 32) (j3 : BitVec 32) (s : FVec F S256x1 .f32) (j4 : BitVec 32) (j5 : BitVec 32) (j6 : BitVec 32) (D : List (ℕ × ℕ)) :
    recs m ρ K ⊢ iprop(xPts m ρ c 1 1 fullShare -∗ oPts m ρ c D
      -∗ (∀ r1 r2, xPts m ρ c 1 1 fullShare -∗ oPts m ρ c ((col c 2 (1 - c.val / 16) 1, 1024) :: D) -∗ Q ⟨addS s (xc m ρ c 2 1), r1, r2⟩)
      -∗ WP c (k0_part21 (F := F) aM i0 wM i1 oM i2 zM i3 xM i4 cc0_scratch2 cc0_scratch3 cc0_scratch4 cc0_scratch5 c j1 j2 j3 s j4 j5 j6) Q) := by
  simp only [k0_part21_eq_skeleton]; unfold k0_part21_skel
  simp only [Prog.lift, Prog.bind_op, Prog.bind_ret, Prog.pure_eq_ret, ad19, st20, ad22, st23, ad25, st26, ex27, ad28, ad31, st32, ad34, st35, ad37, st38, ad40, st41, ad43, st44, ad46, st47, ad49, st50, ad16, st29, stq_eq, own14]
  iintro #HR X11 O Hk
  iapply (wp_xload m ρ c 1 1 fullShare 1 1 rfl rfl) $$ X11
  iintro X11
  rw [show xc m ρ c ((1 : Fin 3).val + 1) 1 = xc m ρ c 2 1 from rfl]
  iapply (wp_oload m ρ c (D)) $$ O
  iintro %v O
  iapply (wp_ostore m ρ c (D) (col c 2 (1 - c.val / 16) 1) 1024 (off6_eq c 1 1) rfl (stq_x m ρ c 2 1 (by decide) (by decide) (off6_eq c 1 1)) rfl) $$ O
  iintro O
  iapply wret
  iapply Hk $$ %_ %_ X11 O

/-- Part 22 of the body: a piece of the ring is received, a copy across `x` is started. -/
theorem part22 {Q : (Σ' (_ : BitVec 32) (_ : BitVec 1), BitVec 32) → sProp 𝕄} (c : Dev nD) (j1 : BitVec 32) (j2 : BitVec 32) (j3 : BitVec 32) (j4 : BitVec 32) (j5 : BitVec 32) :
    recs m ρ K ⊢ iprop(fly c (1, 2, 1) -∗ xGo c 2 1 -∗ ow c l11
      -∗ (∀ r1 r2 r3, done c (1, 2, 1) -∗ zPts m ρ c 3 1 qz -∗ zPts m ρ c 3 1 ql -∗ fly c (2, 2, 1) -∗ ow c l12 -∗ Q ⟨r1, r2, r3⟩)
      -∗ WP c (k0_part22 (F := F) aM i0 wM i1 oM i2 zM i3 xM i4 cc0_scratch2 cc0_scratch3 cc0_scratch4 cc0_scratch5 c j1 j2 j3 j4 j5) Q) := by
  simp only [k0_part22_eq_skeleton]; unfold k0_part22_skel
  simp only [Prog.lift, Prog.bind_op, Prog.bind_ret, Prog.pure_eq_ret, ad19, st20, ad22, st23, ad25, st26, ex27, ad28, ad31, st32, ad34, st35, ad37, st38, ad40, st41, ad43, st44, ad46, st47, ad49, st50, ad16, st29, stq_eq, own14]
  iintro #HR F121 Gx21 HO Hk
  iapply (zrecv m ρ K c 2 3 1 l11 (by decide) 2 1 (by decide)) $$ HR F121 HO
  iintro D121 Z31z Z31x Z31l HO
  iapply (xsend m ρ K c _ (dev15_eq c) 2 3 1 l12 3 2 1 (by decide)) $$ HR Z31x Gx21 HO
  iintro F221 HO
  iapply wret
  iapply Hk $$ %_ %_ %_ D121 Z31z Z31l F221 HO

/-- Part 23 of the body: a received piece is loaded, exponentials are stored, a piece of the other `x` is received. -/
theorem part23 {Q : (Σ' (_ : FVec F S256x1 .f32) (_ : BitVec 32), BitVec 32) → sProp 𝕄} (c : Dev nD) (j1 : BitVec 32) (j2 : BitVec 32) (j3 : BitVec 32) (j4 : BitVec 32) (s : FVec F S256x1 .f32) (j5 : BitVec 32) (b : BitVec 1) (j6 : BitVec 32) (D : List (ℕ × ℕ)) :
    recs m ρ K ⊢ iprop(zPts m ρ c 3 1 ql -∗ fly c (3, 2, 0) -∗ oPts m ρ c D -∗ ow c l12
      -∗ (∀ r1 r2, zPts m ρ c 3 1 ql -∗ done c (3, 2, 0) -∗ xPts m ρ c 2 0 fullShare -∗ oPts m ρ c ((col c 3 (c.val / 16) 1, 1024) :: D) -∗ ow c l12 -∗ Q ⟨addS s (zc m ρ c 3 1), r1, r2⟩)
      -∗ WP c (k0_part23 (F := F) aM i0 wM i1 oM i2 zM i3 xM i4 cc0_scratch2 cc0_scratch3 cc0_scratch4 cc0_scratch5 c j1 j2 j3 j4 s j5 b j6) Q) := by
  simp only [k0_part23_eq_skeleton]; unfold k0_part23_skel
  simp only [Prog.lift, Prog.bind_op, Prog.bind_ret, Prog.pure_eq_ret, ad19, st20, ad22, st23, ad25, st26, ex27, ad28, ad31, st32, ad34, st35, ad37, st38, ad40, st41, ad43, st44, ad46, st47, ad49, st50, ad16, st29, stq_eq, own14]
  iintro #HR Z31l F320 O HO Hk
  iapply (wp_zload m ρ c 3 1 ql 3 1 rfl rfl) $$ Z31l
  iintro Z31l
  rw [show zc m ρ c ((3 : Fin 4).val) 1 = zc m ρ c 3 1 from rfl]
  iapply (wp_oload m ρ c (D)) $$ O
  iintro %v O
  iapply (wp_ostore m ρ c (D) (col c 3 (c.val / 16) 1) 1024 (off5_eq c 2 1) rfl (stq_z m ρ c 3 1 (by decide) (by decide) (off5_eq c 2 1)) rfl) $$ O
  iintro O
  iapply (xrecv m ρ K c 2 0 l12 (by decide) 2 0 (by decide)) $$ HR F320 HO
  iintro D320 X20 HO
  iapply wret
  iapply Hk $$ %_ %_ Z31l D320 X20 O HO

/-- Part 24 of the body: a received piece of the other `x` is loaded, exponentials are stored. -/
theorem part24 {Q : (Σ' (_ : FVec F S256x1 .f32) (_ : BitVec 32), BitVec 32) → sProp 𝕄} (c : Dev nD) (j1 : BitVec 32) (j2 : BitVec 32) (j3 : BitVec 32) (s : FVec F S256x1 .f32) (j4 : BitVec 32) (j5 : BitVec 32) (D : List (ℕ × ℕ)) :
    recs m ρ K ⊢ iprop(xPts m ρ c 2 0 fullShare -∗ oPts m ρ c D
      -∗ (∀ r1 r2, xPts m ρ c 2 0 fullShare -∗ oPts m ρ c ((col c 3 (1 - c.val / 16) 0, 1024) :: D) -∗ Q ⟨addS s (xc m ρ c 3 0), r1, r2⟩)
      -∗ WP c (k0_part24 (F := F) aM i0 wM i1 oM i2 zM i3 xM i4 cc0_scratch2 cc0_scratch3 cc0_scratch4 cc0_scratch5 c j1 j2 j3 s j4 j5) Q) := by
  simp only [k0_part24_eq_skeleton]; unfold k0_part24_skel
  simp only [Prog.lift, Prog.bind_op, Prog.bind_ret, Prog.pure_eq_ret, ad19, st20, ad22, st23, ad25, st26, ex27, ad28, ad31, st32, ad34, st35, ad37, st38, ad40, st41, ad43, st44, ad46, st47, ad49, st50, ad16, st29, stq_eq, own14]
  iintro #HR X20 O Hk
  iapply (wp_xload m ρ c 2 0 fullShare 2 0 rfl rfl) $$ X20
  iintro X20
  rw [show xc m ρ c ((2 : Fin 3).val + 1) 0 = xc m ρ c 3 0 from rfl]
  iapply (wp_oload m ρ c (D)) $$ O
  iintro %v O
  iapply (wp_ostore m ρ c (D) (col c 3 (1 - c.val / 16) 0) 1024 (off6_eq c 2 0) rfl (stq_x m ρ c 3 0 (by decide) (by decide) (off6_eq c 2 0)) rfl) $$ O
  iintro O
  iapply wret
  iapply Hk $$ %_ %_ X20 O

/-- Part 25 of the body: a piece of the other `x` is received, a received piece of the other `x` is loaded, exponentials are stored. -/
theorem part25 {Q : (FVec F S256x1 .f32) → sProp 𝕄} (c : Dev nD) (j1 : BitVec 32) (j2 : BitVec 32) (s : FVec F S256x1 .f32) (j3 : BitVec 32) (j4 : BitVec 32) (D : List (ℕ × ℕ)) :
    recs m ρ K ⊢ iprop(fly c (3, 2, 1) -∗ oPts m ρ c D -∗ ow c l12
      -∗ (done c (3, 2, 1) -∗ xPts m ρ c 2 1 fullShare -∗ oPts m ρ c ((col c 3 (1 - c.val / 16) 1, 1024) :: D) -∗ ow c l12 -∗ Q (addS s (xc m ρ c 3 1)))
      -∗ WP c (k0_part25 (F := F) aM i0 wM i1 oM i2 zM i3 xM i4 cc0_scratch2 cc0_scratch3 cc0_scratch4 cc0_scratch5 c j1 j2 s j3 j4) Q) := by
  simp only [k0_part25_eq_skeleton]; unfold k0_part25_skel
  simp only [Prog.lift, Prog.bind_op, Prog.bind_ret, Prog.pure_eq_ret, ad19, st20, ad22, st23, ad25, st26, ex27, ad28, ad31, st32, ad34, st35, ad37, st38, ad40, st41, ad43, st44, ad46, st47, ad49, st50, ad16, st29, stq_eq, own14]
  iintro #HR F321 O HO Hk
  iapply (xrecv m ρ K c 2 1 l12 (by decide) 2 1 (by decide)) $$ HR F321 HO
  iintro D321 X21 HO
  iapply (wp_xload m ρ c 2 1 fullShare 2 1 rfl rfl) $$ X21
  iintro X21
  rw [show xc m ρ c ((2 : Fin 3).val + 1) 1 = xc m ρ c 3 1 from rfl]
  iapply (wp_oload m ρ c (D)) $$ O
  iintro %v O
  iapply (wp_ostore m ρ c (D) (col c 3 (1 - c.val / 16) 1) 1024 (off6_eq c 2 1) rfl (stq_x m ρ c 3 1 (by decide) (by decide) (off6_eq c 2 1)) rfl) $$ O
  iintro O
  iapply wret
  iapply Hk $$ D321 X21 O HO

/-- Part 26 of the body: copies that were sent are awaited. -/
theorem part26 {Q : (PUnit) → sProp 𝕄} (c : Dev nD)  :
    recs m ρ K ⊢ iprop(fly c (0, 0, 0) -∗ fly c (0, 0, 1) -∗ fly c (0, 1, 0) -∗ ow c l12
      -∗ (done c (0, 0, 0) -∗ zPts m ρ c 0 0 qz -∗ done c (0, 0, 1) -∗ zPts m ρ c 0 1 qz -∗ done c (0, 1, 0) -∗ zPts m ρ c 1 0 qz -∗ ow c l12 -∗ Q ⟨⟩)
      -∗ WP c (k0_part26 (F := F) aM i0 wM i1 oM i2 zM i3 xM i4 cc0_scratch2 cc0_scratch3 cc0_scratch4 cc0_scratch5 ) Q) := by
  simp only [k0_part26_eq_skeleton]; unfold k0_part26_skel
  simp only [Prog.lift, Prog.bind_op, Prog.bind_ret, Prog.pure_eq_ret, ad19, st20, ad22, st23, ad25, st26, ex27, ad28, ad31, st32, ad34, st35, ad37, st38, ad40, st41, ad43, st44, ad46, st47, ad49, st50, ad16, st29, stq_eq, own14]
  iintro #HR F000 F001 F010 HO Hk
  iapply (zsent m ρ K c 0 0 0 l12 (by decide) 0 0 (by decide)) $$ HR F000 HO
  iintro D000 Z00z HO
  iapply (zsent m ρ K c 0 0 1 l12 (by decide) 0 1 (by decide)) $$ HR F001 HO
  iintro D001 Z01z HO
  iapply (zsent m ρ K c 1 1 0 l12 (by decide) 1 0 (by decide)) $$ HR F010 HO
  iintro D010 Z10z HO
  iapply wret
  iapply Hk $$ D000 Z00z D001 Z01z D010 Z10z HO

/-- Part 27 of the body: copies that were sent are awaited. -/
theorem part27 {Q : (PUnit) → sProp 𝕄} (c : Dev nD)  :
    recs m ρ K ⊢ iprop(fly c (0, 1, 1) -∗ fly c (0, 2, 0) -∗ fly c (0, 2, 1) -∗ ow c l12
      -∗ (done c (0, 1, 1) -∗ zPts m ρ c 1 1 qz -∗ done c (0, 2, 0) -∗ zPts m ρ c 2 0 qz -∗ done c (0, 2, 1) -∗ zPts m ρ c 2 1 qz -∗ ow c l12 -∗ Q ⟨⟩)
      -∗ WP c (k0_part27 (F := F) aM i0 wM i1 oM i2 zM i3 xM i4 cc0_scratch2 cc0_scratch3 cc0_scratch4 cc0_scratch5 ) Q) := by
  simp only [k0_part27_eq_skeleton]; unfold k0_part27_skel
  simp only [Prog.lift, Prog.bind_op, Prog.bind_ret, Prog.pure_eq_ret, ad19, st20, ad22, st23, ad25, st26, ex27, ad28, ad31, st32, ad34, st35, ad37, st38, ad40, st41, ad43, st44, ad46, st47, ad49, st50, ad16, st29, stq_eq, own14]
  iintro #HR F011 F020 F021 HO Hk
  iapply (zsent m ρ K c 1 1 1 l12 (by decide) 1 1 (by decide)) $$ HR F011 HO
  iintro D011 Z11z HO
  iapply (zsent m ρ K c 2 2 0 l12 (by decide) 2 0 (by decide)) $$ HR F020 HO
  iintro D020 Z20z HO
  iapply (zsent m ρ K c 2 2 1 l12 (by decide) 2 1 (by decide)) $$ HR F021 HO
  iintro D021 Z21z HO
  iapply wret
  iapply Hk $$ D011 Z11z D020 Z20z D021 Z21z HO

/-- Part 28 of the body: copies that were sent are awaited. -/
theorem part28 {Q : (PUnit) → sProp 𝕄} (c : Dev nD)  :
    recs m ρ K ⊢ iprop(fly c (2, 0, 0) -∗ fly c (2, 0, 1) -∗ fly c (2, 1, 0) -∗ ow c l12
      -∗ (done c (2, 0, 0) -∗ zPts m ρ c 1 0 qx -∗ done c (2, 0, 1) -∗ zPts m ρ c 1 1 qx -∗ done c (2, 1, 0) -∗ zPts m ρ c 2 0 qx -∗ ow c l12 -∗ Q ⟨⟩)
      -∗ WP c (k0_part28 (F := F) aM i0 wM i1 oM i2 zM i3 xM i4 cc0_scratch2 cc0_scratch3 cc0_scratch4 cc0_scratch5 ) Q) := by
  simp only [k0_part28_eq_skeleton]; unfold k0_part28_skel
  simp only [Prog.lift, Prog.bind_op, Prog.bind_ret, Prog.pure_eq_ret, ad19, st20, ad22, st23, ad25, st26, ex27, ad28, ad31, st32, ad34, st35, ad37, st38, ad40, st41, ad43, st44, ad46, st47, ad49, st50, ad16, st29, stq_eq, own14]
  iintro #HR F200 F201 F210 HO Hk
  iapply (xsent m ρ K c 0 1 0 l12 (by decide) 0 0 (by decide)) $$ HR F200 HO
  iintro D200 Z10x HO
  iapply (xsent m ρ K c 0 1 1 l12 (by decide) 0 1 (by decide)) $$ HR F201 HO
  iintro D201 Z11x HO
  iapply (xsent m ρ K c 1 2 0 l12 (by decide) 1 0 (by decide)) $$ HR F210 HO
  iintro D210 Z20x HO
  iapply wret
  iapply Hk $$ D200 Z10x D201 Z11x D210 Z20x HO

/-- Part 29 of the body: copies that were sent are awaited. -/
theorem part29 {Q : (PUnit) → sProp 𝕄} (c : Dev nD)  :
    recs m ρ K ⊢ iprop(fly c (2, 1, 1) -∗ fly c (2, 2, 0) -∗ fly c (2, 2, 1) -∗ ow c l12
      -∗ (done c (2, 1, 1) -∗ zPts m ρ c 2 1 qx -∗ done c (2, 2, 0) -∗ zPts m ρ c 3 0 qx -∗ done c (2, 2, 1) -∗ zPts m ρ c 3 1 qx -∗ ow c l12 -∗ Q ⟨⟩)
      -∗ WP c (k0_part29 (F := F) aM i0 wM i1 oM i2 zM i3 xM i4 cc0_scratch2 cc0_scratch3 cc0_scratch4 cc0_scratch5 ) Q) := by
  simp only [k0_part29_eq_skeleton]; unfold k0_part29_skel
  simp only [Prog.lift, Prog.bind_op, Prog.bind_ret, Prog.pure_eq_ret, ad19, st20, ad22, st23, ad25, st26, ex27, ad28, ad31, st32, ad34, st35, ad37, st38, ad40, st41, ad43, st44, ad46, st47, ad49, st50, ad16, st29, stq_eq, own14]
  iintro #HR F211 F220 F221 HO Hk
  iapply (xsent m ρ K c 1 2 1 l12 (by decide) 1 1 (by decide)) $$ HR F211 HO
  iintro D211 Z21x HO
  iapply (xsent m ρ K c 2 3 0 l12 (by decide) 2 0 (by decide)) $$ HR F220 HO
  iintro D220 Z30x HO
  iapply (xsent m ρ K c 2 3 1 l12 (by decide) 2 1 (by decide)) $$ HR F221 HO
  iintro D221 Z31x HO
  iapply wret
  iapply Hk $$ D211 Z21x D220 Z30x D221 Z31x HO

end Parts

end Cert.KProof

end
-- ==== Proof.Start.lean ====
/-
# `Start`: the barrier and the first loads
-/
module

public import proofs.«01_k».proof.Proof.Parts

@[expose] public section

set_option synthInstance.maxSize 4096

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Option J → ℕ)

section Start

variable {i0 : aM.IsWhole} {i1 : wM.IsWhole} {i2 : oM.IsWhole} {i3 : zM.IsWhole} {i4 : xM.IsWhole}

/-- A signal to a neighbour's barrier: it pays one duty there and hands that duty's payload over. -/
theorem bsignal {α : Type} {Q : α → sProp 𝕄} {k : PUnit → Prog (TpuEff nD τ sig (Elt F) Λ₀ .tc) α}
    (c n n' : Dev nD) (e : Dev nD ≃ Dev nD) (hn : n = n') (he : n' = e c) (d : Fin 3) (l : List Pay) (X : sProp 𝕄)
    (hX : (kRd m ρ).payload (barCell n') 0 d = X) :
    recs m ρ K ⊢ iprop(dutyTok ER (barCell n') 0 d -∗ X -∗ ow c ((e, .reg barS, 1) :: l)
      -∗ (ow c l -∗ WP c (k ⟨⟩) Q)
      -∗ WP c (.op (.semSignal (Dev.tc n : Thread nD τ) barS ((1#32 : BitVec 32).toInt)) k) Q) := by
  subst hn; subst he; subst hX
  unfold ow
  iintro #HR Ht Hp ⟨%W, HO⟩ Hk
  iapply (Rounds.wp_signal 𝒱₀ ER (kRd m ρ) (c : Thread nD τ) none (dst := (e c : Thread nD τ)) (κ := K (e c, none))
      (d := d) (by rw [duties_bar]; exact Finset.mem_univ _) ((amount_bar m ρ (e c) d).trans (by decide)) () (owed c l) rfl)
    $$ [HO Ht Hp]
  · isplitr; · iapply (recs_inv m ρ K (e c, none)); iexact HR
    isplitl [HO]; · iexact HO
    isplitl [Ht]; · iexact Ht
    isplitl [Hp]; · iexact Hp
    iapply (recs_reached m ρ K (e c, none)); iexact HR
  iintro HO
  iapply Hk
  iexists _; iexact HO

/-- The wait on the barrier: both neighbours' slots arrive, and the barrier's counter stands at zero for good. -/
theorem bwait {α : Type} {Q : α → sProp 𝕄} {k : PUnit → Prog (TpuEff nD τ sig (Elt F) Λ₀ .tc) α} (c : Dev nD) :
    recs m ρ K ⊢ iprop(atPos ER (barCell c) 0 ∅ 0 -∗ cred (tallyAt (barCell c) () 3) -∗ ow c l0
      -∗ (semVal (barCell c) 0 -∗ barPayZ c -∗ barPayX c -∗ ow c l0 -∗ WP c (k ⟨⟩) Q)
      -∗ WP c (.op (.semWait barS ((3#32 : BitVec 32).toInt)) k) Q) := by
  unfold ow
  iintro #HR Ha Hc ⟨%W, HO⟩ Hk
  iapply (Rounds.wp_wait_rest_token 𝒱₀ ER (kRd m ρ) (c : Thread nD τ) none (κ := K (c, none))
      (wpE_semWait_eq 𝒱₀ (c : Thread nD τ) none Set.univ) (Set.mem_univ _) () (O := owed c l0) (W := W) (R := 0) (m := 0) (T := ∅)
      (by rw [expect_bar]; decide)) $$ [Hc HO Ha]
  · isplitr; · iapply (recs_inv m ρ K (c, none)); iexact HR
    isplitl [Hc]; · iexact Hc
    isplitl [HO]; · iexact HO
    isplitr
    · iapply (recs_mayWait m ρ K c (.reg barS) l0 (by decide))
      iexact HR
    iexact Ha
  iintro ⟨HO, Ha, -, Hpay⟩
  imod (Rounds.cell_close ER (kRd m ρ) (Set.mem_univ (K (c, none))) (fun h => h) (R := 0 + 1) (duties_later m ρ (barCell c))) $$ [Ha] with Hz
  · isplitr; · iapply (recs_inv m ρ K (c, none)); iexact HR
    iexact Ha
  ihave Hp := (Entails.of_eq (rest_bar m ρ c)) $$ Hpay
  icases Hp with ⟨Hp0, -, Hp2⟩
  iapply Hk $$ Hz Hp0 Hp2
  iexists _; iexact HO

/-- Loading the whole of `x`. -/
theorem aload {α : Type} {Q : α → sProp 𝕄} (c : Dev nD) {hi} {hl : aM.view.LoadsAt _}
    {k : (S256x512.Idx → Elt F .bf16) → Prog (TpuEff nD τ sig (Elt F) Λ₀ .tc) α} :
    aPts m ρ c ⊢ iprop((aPts m ρ c -∗ WP c (k (xin m ρ c)) Q) -∗ WP c (.op (.load aM (Rect.unit (s := S256x512) ![0, 0] S256x512.size hi).toLoadRect hl) k) Q) := by
  iintro H Hk
  unfold aPts WP
  iapply (wp_load 𝒱₀ (c : Thread nD τ) none Set.univ (m := aM) (S := Finset.univ) (q := fullShare) (f := xin m ρ c) (Finset.subset_univ _)) $$ H; iintro H
  have e : aM.view.readAt (Elt F) (Rect.unit (s := S256x512) ![0, 0] S256x512.size hi).toLoadRect (xin m ρ c) = xin m ρ c :=
    Memref.readAt_unit_zero (Elt F) cc0_stg0_0 (off := ![0, 0]) (by funext a; fin_cases a <;> rfl) hi (xin m ρ c)
  rw [e]
  iapply Hk; iexact H

/-- The device's own slots, as the neighbour behind it receives them. -/
theorem barPayZ_prv (c : Dev nD) : (barPayZ (prv c) : sProp 𝕄) = bigSep Finset.univ fun hp : Fin 3 × Fin 2 => zAny c hp.1.succ hp.2 := by
  unfold barPayZ; rw [nxt_prv]
/-- and as the device at the other `x` does. -/
theorem barPayX_flip (c : Dev nD) : (barPayX (flip c) : sProp 𝕄) = bigSep Finset.univ fun hp : Fin 3 × Fin 2 => xAny c hp.1 hp.2 := by
  unfold barPayX; rw [flip_flip]

/-- What the barrier asks of a device: its three tokens, its own slots to hand over, its position and credit. -/
def barIn (c : Dev nD) : sProp 𝕄 :=
  iprop(dutyTok ER (barCell (prv c)) 0 (0 : Fin 3) ∗ dutyTok ER (barCell (nxt c)) 0 (1 : Fin 3) ∗ dutyTok ER (barCell (flip c)) 0 (2 : Fin 3)
    ∗ (bigSep Finset.univ fun hp : Fin 3 × Fin 2 => zAny c hp.1.succ hp.2) ∗ (bigSep Finset.univ fun hp : Fin 3 × Fin 2 => xAny c hp.1 hp.2)
    ∗ atPos ER (barCell c) 0 ∅ 0 ∗ cred (tallyAt (barCell c) () 3))

/-- The first piece of logits, from the loaded columns. -/
theorem lg0 (c : Dev nD) (hi) : k0_pay3 (xin m ρ c) (wM.view.readAt (Elt F) (Rect.unit (s := S512x4096) (k0_off1 c 0#32) S512x1024.size hi).toLoadRect (win m ρ c)) = lgPc m ρ c 0 := rfl

/-- The second part of the body: the barrier, and the first piece's logits. -/
theorem part2 {Q : (Σ' (_ : BitVec 32) (_ : BitVec 32) (_ : FVec F S256x512 .bf16), FVec F S256x1024 .f32) → sProp 𝕄} (c : Dev nD) (j1 j2 j3 j4 j5 : BitVec 32) :
    recs m ρ K ⊢ iprop(barIn c -∗ aPts m ρ c -∗ wPts m ρ c -∗ ow c payAll
      -∗ (∀ r1 r2, semVal (barCell c) 0 -∗ barPayZ c -∗ barPayX c -∗ aPts m ρ c -∗ wPts m ρ c -∗ ow c l0 -∗ Q ⟨r1, r2, k0_pay2 (xin m ρ c), lgPc m ρ c 0⟩)
      -∗ WP c (k0_part2 (F := F) aM i0 wM i1 oM i2 zM i3 xM i4 cc0_scratch2 cc0_scratch3 cc0_scratch4 cc0_scratch5 c j1 j2 j3 j4 j5) Q) := by
  simp only [k0_part2_eq_skeleton]; unfold k0_part2_skel
  simp only [Prog.lift, Prog.bind_op, Prog.bind_ret, Prog.pure_eq_ret, semSignalWord, semWaitWord]
  unfold barIn
  iintro #HR ⟨T0, T1, T2, Sz, Sx, Ha, Hc⟩ A W HO Hk
  iapply (bsignal m ρ K c _ (prv c) ePrv (dev1_eq c) rfl 0 _ _ (barPayZ_prv c)) $$ HR T0 Sz HO
  iintro HO
  iapply (bsignal m ρ K c _ (nxt c) eNxt (dev2_eq c) rfl 1 _ _ rfl) $$ HR T1 [] HO
  · iempintro
  iintro HO
  iapply (bsignal m ρ K c _ (flip c) eFlip (dev3_eq c) rfl 2 _ _ (barPayX_flip c)) $$ HR T2 Sx HO
  iintro HO
  iapply (bwait m ρ K c) $$ HR Ha Hc HO
  iintro Hz Pz Px HO
  iapply (aload m ρ c) $$ A
  iintro A
  iapply (wload m ρ c) $$ W
  iintro W
  rw [lg0]
  iapply (wret c)
  iapply Hk $$ %_ %_ Hz Pz Px A W HO

/-- The first part: the device reads its own place. -/
theorem part1 {Q : (Σ' (_ : Dev nD) (_ : BitVec 32) (_ : BitVec 32) (_ : BitVec 32) (_ : BitVec 32) (_ : BitVec 32) (_ : BitVec 32) (_ : BitVec 32) (_ : BitVec 32), BitVec 32) → sProp 𝕄} (c : Dev nD) :
    iprop(∀ r1 r2 r3 r4 r5 r6 r7 r8 r9, Q ⟨c, r1, r2, r3, r4, r5, r6, r7, r8, r9⟩) ⊢
      WP c (k0_part1 (F := F) aM i0 wM i1 oM i2 zM i3 xM i4 cc0_scratch2 cc0_scratch3 cc0_scratch4 cc0_scratch5) Q := by
  simp only [k0_part1_eq_skeleton]; unfold k0_part1_skel
  simp only [Prog.lift, Prog.bind_op, Prog.bind_ret, Prog.pure_eq_ret]
  unfold WP
  rw [wp_deviceId]
  iintro Hk
  iapply (wret c)
  iapply Hk

end Start

end Cert.KProof

end
-- ==== Proof.Body.lean ====
/-
# `Body`: the run of the whole body on one device
-/
module

public import proofs.«01_k».proof.Proof.Start

@[expose] public section

set_option synthInstance.maxSize 4096

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Option J → ℕ)

/-! ## The run of the whole body -/

/-- A product over the six pairs, written out. -/
theorem six (Φ : Fin 3 × Fin 2 → sProp 𝕄) : bigSep Finset.univ Φ = iprop(Φ (0, 0) ∗ Φ (0, 1) ∗ Φ (1, 0) ∗ Φ (1, 1) ∗ Φ (2, 0) ∗ Φ (2, 1)) := by
  rw [bigSep_univ_eq_bigSepL [(0, 0), (0, 1), (1, 0), (1, 1), (2, 0), (2, 1)] (by decide) (by decide)]
  simp only [bigSepL_cons, bigSepL_nil, show ∀ P : sProp 𝕄, Idealize.SL.BI.sep P Idealize.SL.BI.emp = P from fun P => equiv_iff.mp Idealize.SL.BI.sep_emp]
  rfl

/-- The next device's slots, one by one; -/
theorem barPayZ_six (c : Dev nD) : (barPayZ c : sProp 𝕄) = iprop(zAny (nxt c) (Fin.succ 0) 0 ∗ zAny (nxt c) (Fin.succ 0) 1 ∗ zAny (nxt c) (Fin.succ 1) 0
    ∗ zAny (nxt c) (Fin.succ 1) 1 ∗ zAny (nxt c) (Fin.succ 2) 0 ∗ zAny (nxt c) (Fin.succ 2) 1) := six _
/-- and those of the device at the other `x`. -/
theorem barPayX_six (c : Dev nD) : (barPayX c : sProp 𝕄) = iprop(xAny (flip c) 0 0 ∗ xAny (flip c) 0 1 ∗ xAny (flip c) 1 0
    ∗ xAny (flip c) 1 1 ∗ xAny (flip c) 2 0 ∗ xAny (flip c) 2 1) := six _
/-- A product over the eight pairs, written out. -/
theorem eight (Φ : Fin 4 × Fin 2 → sProp 𝕄) : bigSep Finset.univ Φ
    = iprop(Φ (0, 0) ∗ Φ (0, 1) ∗ Φ (1, 0) ∗ Φ (1, 1) ∗ Φ (2, 0) ∗ Φ (2, 1) ∗ Φ (3, 0) ∗ Φ (3, 1)) := by
  rw [bigSep_univ_eq_bigSepL [(0, 0), (0, 1), (1, 0), (1, 1), (2, 0), (2, 1), (3, 0), (3, 1)] (by decide) (by decide)]
  simp only [bigSepL_cons, bigSepL_nil, show ∀ P : sProp 𝕄, Idealize.SL.BI.sep P Idealize.SL.BI.emp = P from fun P => equiv_iff.mp Idealize.SL.BI.sep_emp]
  rfl

/-- What a copy along the ring needs, gathered; -/
theorem zGo_intro (c : Dev nD) (h : Fin 3) (p : Fin 2) : (zAny (nxt c) h.succ p : sProp 𝕄) ⊢ iprop(zTok c h p -∗ atp c (0, h, p) -∗ zGo c h p) := by
  unfold zGo
  iintro A B C
  isplitl [A]; · iexact A
  isplitl [B]; · iexact B
  iexact C
/-- what a copy across `x` needs. -/
theorem xGo_intro (c : Dev nD) (h : Fin 3) (p : Fin 2) : (xAny (flip c) h p : sProp 𝕄) ⊢ iprop(xTok c h p -∗ atp c (2, h, p) -∗ xGo c h p) := by
  unfold xGo
  iintro A B C
  isplitl [A]; · iexact A
  isplitl [B]; · iexact B
  iexact C
/-- The three shares of a slot are the whole of it. -/
theorem zPts_join (c : Dev nD) (h : Fin 4) (p : Fin 2) :
    zPts m ρ c h p qz ⊢ iprop(zPts m ρ c h p qx -∗ zPts m ρ c h p ql -∗ zPts m ρ c h p fullShare) := by
  iintro A B C
  iapply ((zPts_split m ρ c h p).2)
  isplitl [A]; · iexact A
  isplitl [B]; · iexact B
  iexact C

/-- The last loads and the store: every exponential times the reciprocal of the sum. -/
theorem olast {α : Type} {Q : α → sProp 𝕄} (c : Dev nD) {hi} {h₁ : oM.view.LoadsAt _} {h₂ : oM.view.LoadsAt _} {h₃ h₄}
    {k : PUnit → Prog (TpuEff nD τ sig (Elt F) Λ₀ .tc) α} :
    ((c : Thread nD τ).loc cc0_stg2_0 ↦{fullShare} outE m ρ c) ⊢ iprop((((c : Thread nD τ).loc cc0_stg2_0 ↦{fullShare} outF m ρ c) -∗ WP c (k ⟨⟩) Q)
      -∗ WP c (.op (.load oM (Rect.unit (s := S256x16384) ![0, 0] S256x16384.size hi).toLoadRect h₁) fun v =>
          .op (.load oM (Rect.unit (s := S256x16384) ![0, 0] S256x16384.size hi).toLoadRect h₂) fun _ =>
          .op (.store oM (Rect.unit (s := S256x16384) ![0, 0] S256x16384.size hi) (k0_pay1 (sumE m ρ c) v) Finset.univ h₃ h₄) k) Q) := by
  iintro H Hk
  unfold WP
  have e : oM.view.readAt (Elt F) (Rect.unit (s := S256x16384) ![0, 0] S256x16384.size hi).toLoadRect (outE m ρ c) = outE m ρ c :=
    Memref.readAt_unit_zero (Elt F) cc0_stg2_0 (off := ![0, 0]) (by funext a; fin_cases a <;> rfl) hi (outE m ρ c)
  iapply (wp_load 𝒱₀ (c : Thread nD τ) none Set.univ (m := oM) (S := Finset.univ) (q := fullShare) (f := outE m ρ c) (Finset.subset_univ _)) $$ H; iintro H
  iapply (wp_load 𝒱₀ (c : Thread nD τ) none Set.univ (m := oM) (S := Finset.univ) (q := fullShare) (f := outE m ρ c) (Finset.subset_univ _)) $$ H; iintro H
  rw [e]
  iapply (wp_store 𝒱₀ (c : Thread nD τ) none Set.univ (m := oM) (r := Rect.unit (s := S256x16384) ![0, 0] S256x16384.size hi) (Mk := Finset.univ) (S := Finset.univ) (f := outE m ρ c) (Finset.subset_univ _)) $$ H
  iintro H
  iapply Hk
  have e' : View.write (Elt F) (oM.access (Rect.unit (s := S256x16384) ![0, 0] S256x16384.size hi)) (outE m ρ c) (k0_pay1 (sumE m ρ c) (outE m ρ c)) Finset.univ = outF m ρ c :=
    Memref.write_access_unit_zero_univ (Elt F) cc0_stg2_0 (off := ![0, 0]) (by funext a; fin_cases a <;> rfl) hi (outE m ρ c) (outF m ρ c)
  iapply (Entails.of_eq (congrArg (fun f => ((c : Thread nD τ).loc cc0_stg2_0 ↦{fullShare} f : sProp 𝕄)) e')); iexact H

/-- What the device's transfers of one step and half need. -/
def perIn (c : Dev nD) (hp : Fin 3 × Fin 2) : sProp 𝕄 :=
  iprop(zTok c hp.1 hp.2 ∗ atp c (0, hp.1, hp.2) ∗ xTok c hp.1 hp.2 ∗ atp c (2, hp.1, hp.2) ∗ fly c (1, hp.1, hp.2) ∗ fly c (3, hp.1, hp.2))
/-- The four semaphores of one step and half, back at zero. -/
def perOut (c : Dev nD) (hp : Fin 3 × Fin 2) : sProp 𝕄 :=
  iprop(done c (0, hp.1, hp.2) ∗ done c (1, hp.1, hp.2) ∗ done c (2, hp.1, hp.2) ∗ done c (3, hp.1, hp.2))

/-- The columns stored, newest first, as a list of first column and length. -/
abbrev stored (c : Dev nD) : List (ℕ × ℕ) :=
  (col c 3 (1 - c.val / 16) 1, 1024) :: (col c 3 (1 - c.val / 16) 0, 1024) :: (col c 3 (c.val / 16) 1, 1024) :: (col c 2 (1 - c.val / 16) 1, 1024) :: (col c 3 (c.val / 16) 0, 1024) :: (col c 2 (1 - c.val / 16) 0, 1024) :: (col c 2 (c.val / 16) 1, 1024) :: (col c 1 (1 - c.val / 16) 1, 1024) :: (col c 2 (c.val / 16) 0, 1024) :: (col c 1 (1 - c.val / 16) 0, 1024) :: (col c 1 (c.val / 16) 1, 1024) :: (col c 1 (c.val / 16) 0, 1024) :: (col c 0 (c.val / 16) 1, 1024) :: (col c 0 (c.val / 16) 0, 1024) :: (col c 0 (1 - c.val / 16) 0, 2048) :: []

/-- The output window is covered by the stored columns. -/
theorem stored_all (c : Dev nD) : ∀ j : ℕ, j < 16384 → ∃ d ∈ stored c, d.1 ≤ j ∧ j < d.1 + d.2 := by
  intro j hj
  have hc : c.val < 32 := c.isLt
  unfold stored col
  have hz : c.val % 4 = 0 ∨ c.val % 4 = 1 ∨ c.val % 4 = 2 ∨ c.val % 4 = 3 := by omega
  have hx : c.val / 16 = 0 ∨ c.val / 16 = 1 := by omega
  rcases hz with hz | hz | hz | hz <;> rcases hx with hx | hx <;> rw [hz, hx] <;>
    simp only [List.exists_mem_cons_iff, List.not_mem_nil, false_and, exists_false, or_false] <;> omega

variable {i0 : aM.IsWhole} {i1 : wM.IsWhole} {i2 : oM.IsWhole} {i3 : zM.IsWhole} {i4 : xM.IsWhole}

set_option maxRecDepth 65536 in
set_option maxHeartbeats 4000000 in
/-- The body run by one device: from the staged inputs, the output's staging at anything and the transfers' resources, to
    the softmax rows in the output's staging, both buffers filled and every semaphore at zero. -/
theorem body_run {Q : PUnit → sProp 𝕄} (c : Dev nD) :
    recs m ρ K ⊢ iprop(barIn c -∗ zAny c 0 0 -∗ zAny c 0 1 -∗ (bigSep Finset.univ (perIn c))
      -∗ aPts m ρ c -∗ wPts m ρ c -∗ oPts m ρ c [] -∗ ow c payAll
      -∗ (semVal (barCell c) 0 -∗ (bigSep Finset.univ (perOut c))
          -∗ (bigSep Finset.univ fun hp : Fin 4 × Fin 2 => zPts m ρ c hp.1 hp.2 fullShare)
          -∗ (bigSep Finset.univ fun hp : Fin 3 × Fin 2 => xPts m ρ c hp.1 hp.2 fullShare)
          -∗ aPts m ρ c -∗ wPts m ρ c -∗ ((c : Thread nD τ).loc cc0_stg2_0 ↦{fullShare} outF m ρ c) -∗ ow c [] -∗ Q ⟨⟩)
      -∗ WP c (cc0_body (F := F) aM i0 wM i1 oM i2 zM i3 xM i4 cc0_scratch2 cc0_scratch3 cc0_scratch4 cc0_scratch5) Q) := by
  rw [cc0_body_eq_skeleton]; unfold cc0_body_skel
  rw [six (perIn c), six (perOut c)]
  unfold perIn perOut
  dsimp only
  iintro #HR HB A00 A01 ⟨⟨tz00, pz00, tx00, px00, F100, F300⟩, ⟨tz01, pz01, tx01, px01, F101, F301⟩, ⟨tz10, pz10, tx10, px10, F110, F310⟩, ⟨tz11, pz11, tx11, px11, F111, F311⟩, ⟨tz20, pz20, tx20, px20, F120, F320⟩, ⟨tz21, pz21, tx21, px21, F121, F321⟩⟩ A W O HO Hk
  rw [WP, wp_bind]
  iapply (part1 c)
  iintro %k1 %k2 %k3 %k4 %k5 %k6 %k7 %k8 %k9
  dsimp only
  rw [wp_bind]
  iapply (part2 m ρ K c _ _ _ _ _) $$ HR HB A W HO
  iintro %k10 %k11 Hz Pz Px A W HO
  dsimp only
  ihave Pz := (Entails.of_eq (barPayZ_six c)) $$ Pz
  ihave Px := (Entails.of_eq (barPayX_six c)) $$ Px
  icases Pz with ⟨s00, s01, s10, s11, s20, s21⟩
  icases Px with ⟨u00, u01, u10, u11, u20, u21⟩
  ihave Gz00 := (zGo_intro c 0 0) $$ s00
  ispecialize Gz00 $$ tz00 pz00
  ihave Gx00 := (xGo_intro c 0 0) $$ u00
  ispecialize Gx00 $$ tx00 px00
  ihave Gz01 := (zGo_intro c 0 1) $$ s01
  ispecialize Gz01 $$ tz01 pz01
  ihave Gx01 := (xGo_intro c 0 1) $$ u01
  ispecialize Gx01 $$ tx01 px01
  ihave Gz10 := (zGo_intro c 1 0) $$ s10
  ispecialize Gz10 $$ tz10 pz10
  ihave Gx10 := (xGo_intro c 1 0) $$ u10
  ispecialize Gx10 $$ tx10 px10
  ihave Gz11 := (zGo_intro c 1 1) $$ s11
  ispecialize Gz11 $$ tz11 pz11
  ihave Gx11 := (xGo_intro c 1 1) $$ u11
  ispecialize Gx11 $$ tx11 px11
  ihave Gz20 := (zGo_intro c 2 0) $$ s20
  ispecialize Gz20 $$ tz20 pz20
  ihave Gx20 := (xGo_intro c 2 0) $$ u20
  ispecialize Gx20 $$ tx20 px20
  ihave Gz21 := (zGo_intro c 2 1) $$ s21
  ispecialize Gz21 $$ tz21 pz21
  ihave Gx21 := (xGo_intro c 2 1) $$ u21
  ispecialize Gx21 $$ tx21 px21
  rw [wp_bind]
  iapply (part3 m ρ K c _ _ _) $$ HR A00 Gz00 W HO
  iintro Z00x Z00l F000 W HO
  try dsimp only
  rw [wp_bind]
  iapply (part4 m ρ K c _ _ _) $$ HR A01 Gz01 W HO
  iintro Z01x Z01l F001 W HO
  try dsimp only
  rw [wp_bind]
  iapply (part5 m ρ K c _ _ _) $$ HR O
  iintro %k12 O
  try dsimp only
  rw [wp_bind]
  iapply (part6 m ρ K c _ _ _ _ _) $$ HR F100 Gz10 HO
  iintro %k13 D100 Z10x Z10l F010 HO
  try dsimp only
  rw [wp_bind]
  iapply (part7 m ρ K c _ _ _ _ _) $$ HR Z10x Gx00 Z10l HO
  iintro %k14 %k15 F200 Z10l HO
  try dsimp only
  rw [wp_bind]
  iapply (part8 m ρ K c _ _ _ _ _ _) $$ HR F101 O HO
  iintro D101 Z11z Z11x Z11l O HO
  try dsimp only
  rw [wp_bind]
  iapply (part9 m ρ K c _ _ _) $$ HR Z11z Gz11 Z11x Gx01 Z11l HO
  iintro %k16 F011 F201 Z11l HO
  try dsimp only
  rw [wp_bind]
  iapply (part10 m ρ K c _ _ _ _ _ _ _) $$ HR F300 O HO
  iintro %k17 %k18 %k19 D300 X00 O HO
  try dsimp only
  rw [wp_bind]
  iapply (part11 m ρ K c _ _ _ _ _ _ _ _) $$ HR X00 O
  iintro X00 O
  try dsimp only
  rw [wp_bind]
  iapply (part12 m ρ K c _ _ _ _ _) $$ HR F110 Gz20 HO
  iintro D110 Z20x Z20l F020 HO
  try dsimp only
  rw [wp_bind]
  iapply (part13 m ρ K c _ _ _ _) $$ HR Z20x Gx10 Z20l O HO
  iintro F210 Z20l O HO
  try dsimp only
  rw [wp_bind]
  iapply (part14 m ρ K c _ _ _ _ _) $$ HR F301 HO
  iintro %k20 %k21 D301 X01 HO
  try dsimp only
  rw [wp_bind]
  iapply (part15 m ρ K c _ _ _ _ _ _) $$ HR F111 O HO
  iintro D111 Z21z Z21x Z21l O HO
  try dsimp only
  rw [wp_bind]
  iapply (part16 m ρ K c _ _ _) $$ HR Z21z Gz21 Z21x Gx11 HO
  iintro %k22 F021 F211 HO
  try dsimp only
  rw [wp_bind]
  iapply (part17 m ρ K c _ _ _ _ _ _ _) $$ HR Z21l F310 O HO
  iintro %k23 %k24 %k25 Z21l D310 X10 O HO
  try dsimp only
  rw [wp_bind]
  iapply (part18 m ρ K c _ _ _ _ _ _ _ _) $$ HR X10 O
  iintro X10 O
  try dsimp only
  rw [wp_bind]
  iapply (part19 m ρ K c _ _ _) $$ HR F120 Gx20 HO
  iintro %k26 D120 Z30z Z30l F220 HO
  try dsimp only
  rw [wp_bind]
  iapply (part20 m ρ K c _ _ _ _ _ _ _) $$ HR Z30l F311 O HO
  iintro %k27 %k28 %k29 Z30l D311 X11 O HO
  try dsimp only
  rw [wp_bind]
  iapply (part21 m ρ K c _ _ _ _ _ _ _ _) $$ HR X11 O
  iintro %k30 %k31 X11 O
  try dsimp only
  rw [wp_bind]
  iapply (part22 m ρ K c _ _ _ _ _) $$ HR F121 Gx21 HO
  iintro %k32 %k33 %k34 D121 Z31z Z31l F221 HO
  try dsimp only
  rw [wp_bind]
  iapply (part23 m ρ K c _ _ _ _ _ _ _ _ _) $$ HR Z31l F320 O HO
  iintro %k35 %k36 Z31l D320 X20 O HO
  try dsimp only
  rw [wp_bind]
  iapply (part24 m ρ K c _ _ _ _ _ _ _) $$ HR X20 O
  iintro %k37 %k38 X20 O
  try dsimp only
  rw [wp_bind]
  iapply (part25 m ρ K c _ _ _ _ _ _) $$ HR F321 O HO
  iintro D321 X21 O HO
  try dsimp only
  rw [wp_bind]
  iapply (part26 m ρ K c ) $$ HR F000 F001 F010 HO
  iintro D000 Z00z D001 Z01z D010 Z10z HO
  try dsimp only
  rw [wp_bind]
  iapply (part27 m ρ K c ) $$ HR F011 F020 F021 HO
  iintro D011 Z11z D020 Z20z D021 Z21z HO
  try dsimp only
  rw [wp_bind]
  iapply (part28 m ρ K c ) $$ HR F200 F201 F210 HO
  iintro D200 Z10x D201 Z11x D210 Z20x HO
  try dsimp only
  rw [wp_bind]
  iapply (part29 m ρ K c ) $$ HR F211 F220 F221 HO
  iintro D211 Z21x D220 Z30x D221 Z31x HO
  try dsimp only
  ihave O := (oPts_full m ρ c (stored c) (stored_all c)) $$ O
  simp only [Prog.lift, Prog.bind_op, Prog.bind_ret, Prog.pure_eq_ret]
  iapply (olast m ρ c) $$ O
  iintro O
  iapply (wret c)
  ihave Z00 := (zPts_join m ρ c 0 0) $$ Z00z
  ispecialize Z00 $$ Z00x Z00l
  ihave Z01 := (zPts_join m ρ c 0 1) $$ Z01z
  ispecialize Z01 $$ Z01x Z01l
  ihave Z10 := (zPts_join m ρ c 1 0) $$ Z10z
  ispecialize Z10 $$ Z10x Z10l
  ihave Z11 := (zPts_join m ρ c 1 1) $$ Z11z
  ispecialize Z11 $$ Z11x Z11l
  ihave Z20 := (zPts_join m ρ c 2 0) $$ Z20z
  ispecialize Z20 $$ Z20x Z20l
  ihave Z21 := (zPts_join m ρ c 2 1) $$ Z21z
  ispecialize Z21 $$ Z21x Z21l
  ihave Z30 := (zPts_join m ρ c 3 0) $$ Z30z
  ispecialize Z30 $$ Z30x Z30l
  ihave Z31 := (zPts_join m ρ c 3 1) $$ Z31z
  ispecialize Z31 $$ Z31x Z31l
  iapply Hk $$ Hz [D000 D001 D010 D011 D020 D021 D100 D101 D110 D111 D120 D121 D200 D201 D210 D211 D220 D221 D300 D301 D310 D311 D320 D321] [Z00 Z01 Z10 Z11 Z20 Z21 Z30 Z31] [X00 X01 X10 X11 X20 X21] A W O HO
  · isplitl [D000 D100 D200 D300]
    · isplitl [D000]; · iexact D000
      isplitl [D100]; · iexact D100
      isplitl [D200]; · iexact D200
      iexact D300
    isplitl [D001 D101 D201 D301]
    · isplitl [D001]; · iexact D001
      isplitl [D101]; · iexact D101
      isplitl [D201]; · iexact D201
      iexact D301
    isplitl [D010 D110 D210 D310]
    · isplitl [D010]; · iexact D010
      isplitl [D110]; · iexact D110
      isplitl [D210]; · iexact D210
      iexact D310
    isplitl [D011 D111 D211 D311]
    · isplitl [D011]; · iexact D011
      isplitl [D111]; · iexact D111
      isplitl [D211]; · iexact D211
      iexact D311
    isplitl [D020 D120 D220 D320]
    · isplitl [D020]; · iexact D020
      isplitl [D120]; · iexact D120
      isplitl [D220]; · iexact D220
      iexact D320
    isplitl [D021]; · iexact D021
    isplitl [D121]; · iexact D121
    isplitl [D221]; · iexact D221
    iexact D321
  · rw [eight]; dsimp only
    isplitl [Z00]; · iexact Z00
    isplitl [Z01]; · iexact Z01
    isplitl [Z10]; · iexact Z10
    isplitl [Z11]; · iexact Z11
    isplitl [Z20]; · iexact Z20
    isplitl [Z21]; · iexact Z21
    isplitl [Z30]; · iexact Z30
    iexact Z31
  · rw [six]; dsimp only
    isplitl [X00]; · iexact X00
    isplitl [X01]; · iexact X01
    isplitl [X10]; · iexact X10
    isplitl [X11]; · iexact X11
    isplitl [X20]; · iexact X20
    iexact X21

end Cert.KProof

end
-- ==== Proof.Deal.lean ====
/-
# `Deal`: what the launch deals out, in the form the body takes it
-/
module

public import proofs.«01_k».proof.Proof.Body
public import Idealize.ShloMosaic.Lib.Ring

@[expose] public section

set_option synthInstance.maxSize 4096

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Option J → ℕ)

/-! ## Products over the semaphores -/

/-- A product over an optional index: the absent one and the present ones. -/
theorem opt_split {I : Type} [Fintype I] [DecidableEq I] (Φ : Option I → sProp 𝕄) :
    bigSep Finset.univ Φ = iprop(Φ none ∗ bigSep Finset.univ fun i => Φ (some i)) := by
  have h : (Finset.univ : Finset (Option I)) = insert none (Finset.univ.map ⟨some, Option.some_injective I⟩) := by
    ext x; cases x <;> simp
  rw [h, bigSep_insert (by simp), BI.bigSep_map]
  rfl

/-- A product over the twenty-four transfer semaphores, by kind. -/
theorem quad (Φ : J → sProp 𝕄) : bigSep Finset.univ Φ = iprop((bigSep Finset.univ fun hp => Φ (0, hp)) ∗ (bigSep Finset.univ fun hp => Φ (1, hp))
    ∗ (bigSep Finset.univ fun hp => Φ (2, hp)) ∗ (bigSep Finset.univ fun hp => Φ (3, hp))) := by
  rw [bigSep_univ_prod, bigSep_univ_eq_bigSepL [0, 1, 2, 3] (by decide) (by decide)]
  rfl

/-! ## The buffers, slot by slot -/

/-- Slots do not overlap; -/
theorem zSet_disj (a b : Fin 4 × Fin 2) (h : a ≠ b) : Disjoint (zSet a.1 a.2) (zSet b.1 b.2) :=
  Finset.disjoint_left.mpr fun i hi hj => h (Prod.ext ((mem_zSet hi).1.symm.trans (mem_zSet hj).1) ((mem_zSet hi).2.symm.trans (mem_zSet hj).2))
/-- nor do those of the cross buffer; -/
theorem xSet_disj (a b : Fin 3 × Fin 2) (h : a ≠ b) : Disjoint (xSet a.1 a.2) (xSet b.1 b.2) :=
  Finset.disjoint_left.mpr fun i hi hj => h (Prod.ext ((mem_xSet hi).1.symm.trans (mem_xSet hj).1) ((mem_xSet hi).2.symm.trans (mem_xSet hj).2))
/-- together they are the whole ring buffer; -/
theorem zSet_all : (Finset.univ.biUnion fun a : Fin 4 × Fin 2 => zSet a.1 a.2) = Finset.univ := by
  ext i
  simp only [Finset.mem_biUnion, Finset.mem_univ, true_and, iff_true]
  refine ⟨(i 0, i 1), Rect.mem_set_unit.mpr fun a => ?_⟩
  match a with
  | 0 => exact ⟨le_rfl, Nat.lt_succ_self _⟩
  | 1 => exact ⟨le_rfl, Nat.lt_succ_self _⟩
  | 2 => exact ⟨Nat.zero_le _, by have := (i 2).isLt; show _ < 0 + 256; rw [Nat.zero_add]; exact this⟩
  | 3 => exact ⟨Nat.zero_le _, by have := (i 3).isLt; show _ < 0 + 1024; rw [Nat.zero_add]; exact this⟩
/-- and the whole cross buffer. -/
theorem xSet_all : (Finset.univ.biUnion fun a : Fin 3 × Fin 2 => xSet a.1 a.2) = Finset.univ := by
  ext i
  simp only [Finset.mem_biUnion, Finset.mem_univ, true_and, iff_true]
  refine ⟨(i 0, i 1), Rect.mem_set_unit.mpr fun a => ?_⟩
  match a with
  | 0 => exact ⟨le_rfl, Nat.lt_succ_self _⟩
  | 1 => exact ⟨le_rfl, Nat.lt_succ_self _⟩
  | 2 => exact ⟨Nat.zero_le _, by have := (i 2).isLt; show _ < 0 + 256; rw [Nat.zero_add]; exact this⟩
  | 3 => exact ⟨Nat.zero_le _, by have := (i 3).isLt; show _ < 0 + 1024; rw [Nat.zero_add]; exact this⟩

/-- A whole buffer is its slots; -/
theorem z_cut (c : Dev nD) (f : Buf (Elt F) ((c : Thread nD τ).loc cc0_scratch0)) : (((c : Thread nD τ).loc cc0_scratch0) ↦{fullShare} f : sProp 𝕄)
    = bigSep Finset.univ fun a : Fin 4 × Fin 2 => ((c : Thread nD τ).loc cc0_scratch0) ↦[zSet a.1 a.2]{fullShare} f :=
  Ring.pointsTo_blocks (ℓ := (c : Thread nD τ).loc cc0_scratch0) (fun a : Fin 4 × Fin 2 => zSet a.1 a.2) zSet_disj zSet_all f
/-- The cross buffer is its six slots; -/
theorem x_cut (c : Dev nD) (f : Buf (Elt F) ((c : Thread nD τ).loc cc0_scratch1)) : (((c : Thread nD τ).loc cc0_scratch1) ↦{fullShare} f : sProp 𝕄)
    = bigSep Finset.univ fun a : Fin 3 × Fin 2 => ((c : Thread nD τ).loc cc0_scratch1) ↦[xSet a.1 a.2]{fullShare} f :=
  Ring.pointsTo_blocks (ℓ := (c : Thread nD τ).loc cc0_scratch1) (fun a : Fin 3 × Fin 2 => xSet a.1 a.2) xSet_disj xSet_all f

/-- at anything, every slot of it is at something. -/
theorem z_open (c : Dev nD) : iprop(∃ f, ((c : Thread nD τ).loc cc0_scratch0) ↦{fullShare} f) ⊢
    (iprop(zAny c 0 0 ∗ zAny c 0 1 ∗ bigSep Finset.univ fun hp : Fin 3 × Fin 2 => zAny c hp.1.succ hp.2) : sProp 𝕄) := by
  iintro ⟨%f, H⟩
  ihave H := (Entails.of_eq (z_cut c f)) $$ H
  ihave H := (Entails.of_eq (eight fun a : Fin 4 × Fin 2 => (((c : Thread nD τ).loc cc0_scratch0) ↦[zSet a.1 a.2]{fullShare} f : sProp 𝕄))) $$ H
  icases H with ⟨H0, H1, H2, H3, H4, H5, H6, H7⟩
  rw [six]; unfold zAny
  isplitl [H0]; · iexists f; iexact H0
  isplitl [H1]; · iexists f; iexact H1
  isplitl [H2]; · iexists f; iexact H2
  isplitl [H3]; · iexists f; iexact H3
  isplitl [H4]; · iexists f; iexact H4
  isplitl [H5]; · iexists f; iexact H5
  isplitl [H6]; · iexists f; iexact H6
  iexists f; iexact H7
/-- with unknown contents too. -/
theorem x_open (c : Dev nD) : iprop(∃ f, ((c : Thread nD τ).loc cc0_scratch1) ↦{fullShare} f) ⊢
    (bigSep Finset.univ fun hp : Fin 3 × Fin 2 => xAny c hp.1 hp.2 : sProp 𝕄) := by
  iintro ⟨%f, H⟩
  have h : (((c : Thread nD τ).loc cc0_scratch1) ↦{fullShare} f : sProp 𝕄) ⊢ bigSep Finset.univ fun hp : Fin 3 × Fin 2 => xAny c hp.1 hp.2 := by
    rw [x_cut c f]
    refine bigSep_mono fun a _ => ?_
    show _ ⊢ (iprop(∃ f, ((c : Thread nD τ).loc cc0_scratch1) ↦[xSet a.1 a.2]{fullShare} f) : sProp 𝕄)
    iintro H; iexists f; iexact H
  iapply h; iexact H

/-! ## The launch's credit -/

/-- The credit the payments `l` of all devices leave on device `c`. -/
def credL (c : Dev nD) : List Pay → sProp 𝕄
  | [] => iprop(emp)
  | p :: l => iprop(cred (tallyAt ((c : Thread nD τ), p.2.1) () p.2.2) ∗ credL c l)

/-- Every payment, from whichever device it comes, is credit of the device it goes to. -/
theorem credL_intro (c : Dev nD) : ∀ l : List Pay, (Pipeline.launchCred (fun d => owed d l) c : sProp 𝕄) ⊢ credL c l
  | [] => Entails.of_eq (Pipeline.launchCred_zero c)
  | p :: l => by
    show (Pipeline.launchCred (fun d => owed d l + tallyAt (((p.1 d : Dev nD) : Thread nD τ), p.2.1) () p.2.2) c : sProp 𝕄) ⊢ iprop(_ ∗ credL c l)
    rw [Pipeline.launchCred_add]
    iintro ⟨H1, H2⟩
    isplitl [H2]
    · iapply (Pipeline.launchCred_tallyAt p.2.1 p.1 p.1.symm p.1.apply_symm_apply p.1.symm_apply_apply () p.2.2 c); iexact H2
    · iapply (credL_intro c l); iexact H1

/-- The barrier's three units and each receive's credit. -/
theorem creds (c : Dev nD) : (Pipeline.launchCred O₀ c : sProp 𝕄) ⊢ iprop(cred (tallyAt (barCell c) () 3)
    ∗ (bigSep Finset.univ fun hp => crd c (1, hp)) ∗ (bigSep Finset.univ fun hp => crd c (3, hp))) := by
  rw [six, six]
  refine (credL_intro c payAll).trans ?_
  unfold crd
  simp only [credL]
  iintro ⟨B0, B1, B2, z00, z01, z10, x00, z11, x01, z20, x10, z21, x11, x20, x21, -⟩
  isplitl [B0 B1 B2]
  · have e3 : (tallyAt (barCell c) () 3 : CellTallies nD τ sig Unit) = tallyAt (barCell c) () 1 + (tallyAt (barCell c) () 1 + tallyAt (barCell c) () 1) := by
      rw [tallyAt_add, tallyAt_add]
    iapply (Entails.of_eq (congrArg (fun T => (cred T : sProp 𝕄)) e3.symm))
    iapply (cred_add _ _).2
    isplitl [B0]; · iexact B0
    iapply (cred_add _ _).2
    isplitl [B1]; · iexact B1
    iexact B2
  isplitl [z00 z01 z10 z11 z20 z21]
  · isplitl [z00]; · iexact z00
    isplitl [z01]; · iexact z01
    isplitl [z10]; · iexact z10
    isplitl [z11]; · iexact z11
    isplitl [z20]; · iexact z20
    iexact z21
  isplitl [x00]; · iexact x00
  isplitl [x01]; · iexact x01
  isplitl [x10]; · iexact x10
  isplitl [x11]; · iexact x11
  isplitl [x20]; · iexact x20
  iexact x21

/-! ## The tokens -/

/-- Whose semaphore of a kind a device pays: its own send semaphores, its neighbours' receive semaphores. -/
def fwd : Fin 4 → (Dev nD ≃ Dev nD)
  | 0 => Equiv.refl _
  | 1 => eNxt
  | 2 => Equiv.refl _
  | 3 => eFlip

/-- The tokens of the duties on a device's own cells. -/
def toks (c : Dev nD) : sProp 𝕄 :=
  iprop(dutyTok ER (barCell c) 0 (0 : Fin 3) ∗ dutyTok ER (barCell c) 0 (1 : Fin 3) ∗ dutyTok ER (barCell c) 0 (2 : Fin 3)
    ∗ bigSep Finset.univ fun j : J => dutyTok ER (dcell c j) 0 (0 : Fin 3))
/-- The tokens of the duties a device pays. -/
def payToks (c : Dev nD) : sProp 𝕄 :=
  iprop(dutyTok ER (barCell (prv c)) 0 (0 : Fin 3) ∗ dutyTok ER (barCell (nxt c)) 0 (1 : Fin 3) ∗ dutyTok ER (barCell (flip c)) 0 (2 : Fin 3)
    ∗ bigSep Finset.univ fun j : J => dutyTok ER (dcell (fwd j.1 c) j) 0 (0 : Fin 3))

/-- The tokens dealt to the devices that pay. -/
theorem toks_dealt : (bigSep Finset.univ fun c : Dev nD => (toks c : sProp 𝕄)) ⊢ bigSep Finset.univ fun c : Dev nD => payToks c := by
  unfold toks payToks
  simp only [bigSep_sep']
  rw [Pipeline.bigSep_univ_comm (fun (c : Dev nD) (j : J) => (dutyTok ER (dcell c j) 0 (0 : Fin 3) : sProp 𝕄)),
    Pipeline.bigSep_univ_comm (fun (c : Dev nD) (j : J) => (dutyTok ER (dcell (fwd j.1 c) j) 0 (0 : Fin 3) : sProp 𝕄)),
    bigSep_congr (s := Finset.univ) (fun (j : J) _ => bigSep_univ_equiv (fwd j.1) (fun c : Dev nD => (dutyTok ER (dcell c j) 0 (0 : Fin 3) : sProp 𝕄))),
    bigSep_univ_equiv ePrv (fun c : Dev nD => (dutyTok ER (barCell c) 0 (0 : Fin 3) : sProp 𝕄)),
    bigSep_univ_equiv eNxt (fun c : Dev nD => (dutyTok ER (barCell c) 0 (1 : Fin 3) : sProp 𝕄)),
    bigSep_univ_equiv eFlip (fun c : Dev nD => (dutyTok ER (barCell c) 0 (2 : Fin 3) : sProp 𝕄))]
  exact BI.Entails.refl _

/-- Positions, tokens and credits, gathered by step and half. -/
theorem perIn_intro (c : Dev nD) : iprop((bigSep Finset.univ (atp c)) ∗ (bigSep Finset.univ fun j : J => dutyTok ER (dcell (fwd j.1 c) j) 0 (0 : Fin 3))
    ∗ (bigSep Finset.univ fun hp => crd c (1, hp)) ∗ (bigSep Finset.univ fun hp => crd c (3, hp))) ⊢ (bigSep Finset.univ (perIn c) : sProp 𝕄) := by
  have e : (perIn c : Fin 3 × Fin 2 → sProp 𝕄) = fun hp => iprop((dutyTok ER (dcell c (0, hp)) 0 (0 : Fin 3) ∗ dutyTok ER (dcell (nxt c) (1, hp)) 0 (0 : Fin 3)) ∗ atp c (0, hp)
      ∗ (dutyTok ER (dcell c (2, hp)) 0 (0 : Fin 3) ∗ dutyTok ER (dcell (flip c) (3, hp)) 0 (0 : Fin 3)) ∗ atp c (2, hp) ∗ (atp c (1, hp) ∗ crd c (1, hp)) ∗ (atp c (3, hp) ∗ crd c (3, hp))) := rfl
  rw [e, quad (atp c), quad fun j : J => dutyTok ER (dcell (fwd j.1 c) j) 0 (0 : Fin 3)]
  simp only [bigSep_sep']
  iintro ⟨⟨A0, A1, A2, A3⟩, ⟨T0, T1, T2, T3⟩, C1, C3⟩
  isplitl [T0 T1]
  · isplitl [T0]; · iexact T0
    iexact T1
  isplitl [A0]; · iexact A0
  isplitl [T2 T3]
  · isplitl [T2]; · iexact T2
    iexact T3
  isplitl [A2]; · iexact A2
  isplitl [A1 C1]
  · isplitl [A1]; · iexact A1
    iexact C1
  isplitl [A3]; · iexact A3
  iexact C3

/-- The closed semaphores, regrouped by kind. -/
theorem perOut_elim (c : Dev nD) : (bigSep Finset.univ (perOut c) : sProp 𝕄) ⊢ bigSep Finset.univ fun j : J => semVal (dcell c j) 0 := by
  have e : (perOut c : Fin 3 × Fin 2 → sProp 𝕄) = fun hp => iprop(semVal (dcell c (0, hp)) 0 ∗ semVal (dcell c (1, hp)) 0 ∗ semVal (dcell c (2, hp)) 0 ∗ semVal (dcell c (3, hp)) 0) := rfl
  rw [e, quad]
  simp only [bigSep_sep']
  exact BI.Entails.refl _

end Cert.KProof

end
-- ==== Proof.Launch.lean ====
/-
# `Launch`: the launch of the kernel on the mesh, and its run
-/
module

public import proofs.«01_k».proof.Proof.Deal
public import Idealize.ShloMosaic.Lib.Pipeline.CollectiveSegs

@[expose] public section

set_option synthInstance.maxSize 4096

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- The kernel has no grid: one point. -/
theorem cfg0_N : cfg0.N = 1 := by decide
/-- That point, -/
def t₀ : Fin cfg0.N := ⟨0, by rw [cfg0_N]; decide⟩
/-- which is the only one. -/
theorem fin_N (t : Fin cfg0.N) : t = t₀ := by
  obtain ⟨t, ht⟩ := t; have := cfg0_N; exact Fin.ext (by simp only [t₀]; omega)

/-- The cells' invariants and starting rounds, without the levels. -/
def cellsAt (K : Dev nD × Option J → ℕ) : sProp 𝕄 :=
  iprop((bigSep Finset.univ fun ck : Dev nD × Option J => cellInv ER (kRd m ρ) (K ck) (kcell ck))
    ∗ (bigSep Finset.univ fun ck : Dev nD × Option J => reached ER (kcell ck) 0))

/-- These facts may be used any number of times. -/
instance cellsAt_persistent (K : Dev nD × Option J → ℕ) : BI.Persistent (cellsAt m ρ K) := by unfold cellsAt; infer_instance

/-- What only this device holds: its positions and the tokens it pays with. -/
def linear (c : Dev nD) : sProp 𝕄 :=
  iprop(atPos ER (barCell c) 0 ∅ 0 ∗ (bigSep Finset.univ (atp c)) ∗ payToks c)

/-- What a device's body starts from, beside its buffers. -/
def start (c : Dev nD) : sProp 𝕄 :=
  iprop((∃ K, cellsAt m ρ K ∗ linear c) ∗ (cred (tallyAt (barCell c) () 3)
    ∗ (bigSep Finset.univ fun hp => crd c (1, hp)) ∗ (bigSep Finset.univ fun hp => crd c (3, hp))) ∗ levAts L lv)

/-- The two buffers, whole, at anything. -/
def bufs (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- What a device holds beside its staging buffers before the body; -/
def Φ₀ (c : Dev nD) : sProp 𝕄 := iprop(start m ρ c ∗ bufs c)
/-- and after it. -/
def Φ₁ (c : Dev nD) : sProp 𝕄 := iprop(bufs c ∗ (bigSep Finset.univ (perOut c)) ∗ semVal (barCell c) 0)

/-- The proof data of the one kernel call: the inputs stay, the output window ends at the softmax rows. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m ρ c
    | ⟨1, _⟩ => win m ρ c
    | ⟨2, _⟩ => outF m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- Holding a whole buffer through its memref is holding the buffer. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

/-- A staging buffer at given contents, as the pipeline hands it over. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from; -/
def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
/-- and what it leaves. -/
def bodyPost (c : Dev nD) : sProp 𝕄 :=
  iprop(Φ₁ c ∗ (dats m ρ 0 c).owesAt () t₀.succ ∗ stg c cc0_stg0_0 (xin m ρ c) ∗ stg c cc0_stg1_0 (win m ρ c) ∗ stg c cc0_stg2_0 (outF m ρ c))

/-- Both inputs are fetched, -/
theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl
/-- and so are staged when the body starts. -/
theorem before_0 (c : Dev nD) (d) : (dats m ρ 0 c).before (0 : Fin 3) t₀ d = xin m ρ c := by
  unfold Dat.before; rw [if_pos (fetch_0 t₀)]; rfl
theorem before_1 (c : Dev nD) (d) : (dats m ρ 0 c).before (1 : Fin 3) t₀ d = win m ρ c := by
  unfold Dat.before; rw [if_pos (fetch_1 t₀)]; rfl

set_option maxRecDepth 8000 in
/-- From what the pipeline hands the body to what it takes back. -/
theorem body_sound (c : Dev nD) : bodyPre m ρ c ⊢ WP c (cc0_body (F := F) aM (Memref.isWhole_whole _) wM (Memref.isWhole_whole _) oM (Memref.isWhole_whole _)
    zM (Memref.isWhole_whole _) xM (Memref.isWhole_whole _) cc0_scratch2 cc0_scratch3 cc0_scratch4 cc0_scratch5) (fun _ => bodyPost m ρ c) := by
  unfold bodyPre Φ₀ start bufs linear payToks cellsAt
  iintro ⟨⟨⟨⟨%K, ⟨#HI, #HR⟩, Hab, Hat, T0, T1, T2, Ht⟩, ⟨Hc3, Hc1, Hcx⟩, #HL⟩, Hz, Hx⟩, Ho, ⟨%d0, %f0, %h0, A⟩, ⟨%d1, %f1, %h1, W⟩, ⟨%d2, %f2, %h2, O⟩⟩
  have e0 : f0 = xin m ρ c := h0.trans (before_0 m ρ c d0)
  have e1 : f1 = win m ρ c := h1.trans (before_1 m ρ c d1)
  subst e0 e1
  unfold Dat.owesAt Pipeline.owesWithin
  icases Ho with ⟨%Wt, %hW, HO⟩
  ihave Hz := (z_open c) $$ Hz
  icases Hz with ⟨Z0, Z1, Zs⟩
  ihave Hx := (x_open c) $$ Hx
  iapply (body_run m ρ K c) $$ [] [T0 T1 T2 Zs Hx Hab Hc3] Z0 Z1 [Hat Ht Hc1 Hcx] [A] [W] [O] [HO]
  · unfold recs
    isplitr; · iexact HI
    isplitr; · iexact HR
    iexact HL
  · unfold barIn
    isplitl [T0]; · iexact T0
    isplitl [T1]; · iexact T1
    isplitl [T2]; · iexact T2
    isplitl [Zs]; · iexact Zs
    isplitl [Hx]; · iexact Hx
    isplitl [Hab]; · iexact Hab
    iexact Hc3
  · iapply (perIn_intro c)
    isplitl [Hat]; · iexact Hat
    isplitl [Ht]; · iexact Ht
    isplitl [Hc1]; · iexact Hc1
    iexact Hcx
  · unfold aPts; iexact A
  · unfold wPts; iexact W
  · unfold oPts
    iexists f2
    isplitr
    · ipureintro; intro i d hd; cases hd
    iexact O
  · unfold ow; iexists Wt; iexact HO
  iintro Hb Hd Hz Hx A W O HO
  unfold bodyPost Φ₁ bufs Dat.owesAt Pipeline.owesWithin ow aPts wPts
  icases HO with ⟨%W', HO⟩
  isplitl [Hb Hd Hz Hx]
  · isplitl [Hz Hx]
    · isplitl [Hz]
      · iexists (zBuf m ρ c); iapply (Entails.of_eq (z_cut c (zBuf m ρ c)).symm); iexact Hz
      · iexists (xBuf m ρ c); iapply (Entails.of_eq (x_cut c (xBuf m ρ c)).symm); iexact Hx
    isplitl [Hd]; · iexact Hd
    iexact Hb
  isplitl [HO]
  · iexists W'
    isplitr; · ipureintro; exact fun _ _ => Or.inl trivial
    iexact HO
  isplitl [A]
  · iexists _; isplitr; · (ipureintro; rfl)
    iexact A
  isplitl [W]
  · iexists _; isplitr; · (ipureintro; rfl)
    iexact W
  iexists _; isplitr; · (ipureintro; rfl)
  iexact O

set_option maxRecDepth 8000 in
/-- The pipeline's obligation on the body. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  exact body_sound m ρ c

/-! ## The launch -/

/-- The twenty-four transfer semaphores are the kernel's own. -/
theorem ownSemFacts : Pipeline.OwnSemFacts cfg0.spec osem := by decide +kernel
/-- The pipeline holds every array whole. -/
theorem share_eq (c : Dev nD) (w : Fin cfg0.W) : (dats m ρ 0 c).share w = fullShare := by unfold Dat.share; split <;> rfl

/-- No two indices name the same semaphore; -/
theorem csem_inj : Function.Injective csem := by
  intro a b h
  cases a <;> cases b
  · rfl
  · exact absurd h (fun h => by cases h)
  · exact absurd h (fun h => by cases h)
  · rename_i x y
    exact congrArg some (dsem_inj (by injection h))
/-- nor the same cell. -/
theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]
/-- All the cells of the mesh. -/
def allCells : Finset (GSem nD τ sig) := Finset.univ.map ⟨kcell, kcell_inj⟩

/-- Every cell's three possible duty tokens of its round. -/
abbrev tokOf (x : Dev nD × Option J × Fin 3) : GSem nD τ sig × ℕ × Fin 3 := (kcell (x.1, x.2.1), 0, x.2.2)
/-- No two of the minted tokens are the same. -/
theorem tokOf_inj : Function.Injective tokOf := by
  rintro ⟨c, k, d⟩ ⟨c', k', d'⟩ h
  have h1 : (c, k) = (c', k') := kcell_inj (congrArg Prod.fst h)
  have h2 : d = d' := congrArg (fun x : GSem nD τ sig × ℕ × Fin 3 => x.2.2) h
  injection h1 with h3 h4
  rw [h3, h4, h2]
/-- All the minted tokens. -/
def allToks : Finset (GSem nD τ sig × ℕ × Fin 3) := Finset.univ.map ⟨tokOf, tokOf_inj⟩

/-- The resources at launch: the pipeline's and the kernel's own. -/
def u₀ : UU :=
  (initOf (Pipeline.cells cfgs cellOf_inj) (Pipeline.launchToks cfgs cellOf_inj), initOf allCells allToks)

/-- What the launch deals a device: its cells at their first round, its positions, its cells' tokens. -/
def G (c : Dev nD) : sProp 𝕄 :=
  iprop((bigSep Finset.univ fun k : Option J => roundState ER (kRd m ρ) (kcell (c, k)) 0)
    ∗ (bigSep Finset.univ fun k : Option J => iprop(atPos ER (kcell (c, k)) 0 ∅ 0 ∗ reached ER (kcell (c, k)) 0)) ∗ toks c)
/-- What a device starts with once the cells are under invariants and the tokens are dealt. -/
def G' (c : Dev nD) : sProp 𝕄 := iprop(∃ K, cellsAt m ρ K ∗ linear c)

/-- The minted tokens of a device's cells contain those its schedule uses. -/
theorem toks_intro (c : Dev nD) : (bigSep Finset.univ fun x : Option J × Fin 3 => (dutyTok ER (kcell (c, x.1)) 0 x.2 : sProp 𝕄)) ⊢ toks c := by
  unfold toks
  rw [bigSep_univ_prod, opt_split]
  have h (j : J) : (bigSep Finset.univ fun d : Fin 3 => (dutyTok ER (kcell (c, some j)) 0 d : sProp 𝕄)) ⊢ dutyTok ER (dcell c j) 0 (0 : Fin 3) :=
    bigSep_elim (Finset.mem_univ (0 : Fin 3))
  have h' : (bigSep Finset.univ fun j : J => bigSep Finset.univ fun d : Fin 3 => (dutyTok ER (kcell (c, some j)) 0 d : sProp 𝕄))
      ⊢ bigSep Finset.univ fun j : J => dutyTok ER (dcell c j) 0 (0 : Fin 3) := bigSep_mono fun j _ => h j
  rw [bigSep_univ_eq_bigSepL (Φ := fun d : Fin 3 => (dutyTok ER (kcell (c, none)) 0 d : sProp 𝕄)) [0, 1, 2] (by decide) (by decide)]
  simp only [bigSepL_cons, bigSepL_nil, show ∀ P : sProp 𝕄, Idealize.SL.BI.sep P Idealize.SL.BI.emp = P from fun P => equiv_iff.mp Idealize.SL.BI.sep_emp]
  show iprop((dutyTok ER (kcell (c, none)) 0 (0 : Fin 3) ∗ dutyTok ER (kcell (c, none)) 0 (1 : Fin 3) ∗ dutyTok ER (kcell (c, none)) 0 (2 : Fin 3))
    ∗ (bigSep Finset.univ fun j : J => bigSep Finset.univ fun d : Fin 3 => (dutyTok ER (kcell (c, some j)) 0 d : sProp 𝕄))) ⊢ _
  iintro ⟨⟨H0, H1, H2⟩, Hj⟩
  isplitl [H0]; · iexact H0
  isplitl [H1]; · iexact H1
  isplitl [H2]; · iexact H2
  iapply h'; iexact Hj

/-- The kernel's resources at launch are what every device is dealt. -/
theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Option J => Φ (kcell (c, k)) := by
    unfold allCells; rw [BI.bigSep_map, bigSep_univ_prod]; rfl
  have hT : bigSep allToks (fun x => (dutyTok ER x.1 x.2.1 x.2.2 : sProp 𝕄)) ⊢ bigSep Finset.univ fun c : Dev nD => toks c := by
    unfold allToks; rw [BI.bigSep_map, bigSep_univ_prod]
    exact bigSep_mono fun c _ => toks_intro c
  iintro HX
  imod (Rounds.fund ER (kRd m ρ) allCells allToks) $$ HX with ⟨Hst, Hr, Hat, Htok⟩
  imodintro
  ihave Hst := (Entails.of_eq (hX fun g => roundState ER (kRd m ρ) g 0)) $$ Hst
  ihave Hat := (Entails.of_eq (hX fun g => atPos ER g 0 ∅ 0)) $$ Hat
  ihave Hr := (Entails.of_eq (hX fun g => reached ER g 0)) $$ Hr
  ihave Htok := hT $$ Htok
  unfold G; simp only [bigSep_sep']
  isplitl [Hst]; · iexact Hst
  isplitl [Hat Hr]
  · isplitl [Hat]; · iexact Hat
    iexact Hr
  iexact Htok

/-- The barrier semaphore is the only one outside the kernel's scope. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The transfer semaphores at zero, by their indices. -/
theorem ownSems0_eq (c : Dev nD) : (Pipeline.ownSems0 (Ix := Unit) (Name := ℕ) (U := UU) (Lvl := ℕ) (Val := Elt F) (τ := τ) osem c : sProp 𝕄)
    = bigSep Finset.univ fun j : J => semVal (dcell c j) 0 := rfl

/-- A device's semaphores, with their first rounds, go under invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (kRd m ρ) κ (kcell (c, k))))
          ∗ (bigSep Finset.univ fun k => iprop(atPos ER (kcell (c, k)) 0 ∅ 0 ∗ reached ER (kcell (c, k)) 0)) ∗ toks c) := by
  unfold G
  rw [ownSems0_eq, unscopedSems0_eq]
  iintro ⟨Hos, Hus, Hst, Hat, Htok⟩
  imod (show iprop((bigSep Finset.univ fun k : Option J => semVal (kcell (c, k)) 0) ∗ bigSep Finset.univ fun k : Option J => roundState ER (kRd m ρ) (kcell (c, k)) 0)
      ⊢ (|={Set.univ}=> bigSep Finset.univ fun k => iprop(∃ κ : ℕ, cellInv ER (kRd m ρ) κ (kcell (c, k))) : sProp 𝕄) from by
        rw [← bigSep_sep']
        exact (bigSep_mono fun k _ => (Rounds.body_intro ER (kRd m ρ) (kcell (c, k))).trans inv_alloc).trans (bigSep_fupd _ _)) $$ [Hos Hus Hst] with Hinv
  · isplitl [Hos Hus]
    · rw [opt_split]
      isplitl [Hus]; · iexact Hus
      iexact Hos
    iexact Hst
  imodintro
  isplitl [Hinv]; · iexact Hinv
  isplitl [Hat]; · iexact Hat
  iexact Htok

/-- A device's positions: the barrier's and the transfers'. -/
theorem positions (c : Dev nD) : (bigSep Finset.univ fun k : Option J => (atPos ER (kcell (c, k)) 0 ∅ 0 : sProp 𝕄))
    = iprop(atPos ER (barCell c) 0 ∅ 0 ∗ bigSep Finset.univ (atp c)) := opt_split _

/-- A persistent fact reaches every member of a product. -/
theorem spread {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

/-- The tokens go to the devices that pay with them, and every device learns of every cell. -/
theorem regroup :
    (bigSep Finset.univ fun c : Dev nD => iprop((bigSep Finset.univ fun k => iprop(∃ κ : ℕ, cellInv ER (kRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Option J => iprop(∃ κ : ℕ, cellInv ER (kRd m ρ) κ (kcell ck))),
    bigSep_congr (s := Finset.univ) (fun (c : Dev nD) _ => bigSep_sep' Finset.univ (fun k : Option J => (atPos ER (kcell (c, k)) 0 ∅ 0 : sProp 𝕄)) (fun k => reached ER (kcell (c, k)) 0)),
    bigSep_sep', ← bigSep_univ_prod (fun ck : Dev nD × Option J => (reached ER (kcell ck) 0 : sProp 𝕄))]
  iintro ⟨HI, ⟨Hat, #HR⟩, Htok⟩
  ihave HK := (BI.bigSep_exists_pi Finset.univ (fun (ck : Dev nD × Option J) (κ : ℕ) => (cellInv ER (kRd m ρ) κ (kcell ck) : sProp 𝕄))) $$ HI
  icases HK with ⟨%K, #HI⟩
  ihave Htk := (toks_dealt (F := F)) $$ Htok
  have hg : ∀ c : Dev nD, iprop(cellsAt m ρ K ∗ linear c) ⊢ G' m ρ c := fun c => by
    unfold G'; iintro H; iexists K; iexact H
  iapply (spread (R := cellsAt m ρ K) (Φ := linear) hg)
  isplitr
  · unfold cellsAt
    isplitl; · iexact HI
    iexact HR
  · have hl : iprop((bigSep Finset.univ fun c : Dev nD => bigSep Finset.univ fun k : Option J => (atPos ER (kcell (c, k)) 0 ∅ 0 : sProp 𝕄))
        ∗ bigSep Finset.univ fun c : Dev nD => payToks c) ⊢ bigSep Finset.univ (linear : Dev nD → sProp 𝕄) := by
      rw [← bigSep_sep']
      refine bigSep_mono fun c _ => ?_
      show iprop((bigSep Finset.univ fun k : Option J => (atPos ER (kcell (c, k)) 0 ∅ 0 : sProp 𝕄)) ∗ payToks c) ⊢ linear c
      unfold linear
      rw [positions]
      iintro ⟨⟨H1, H2⟩, H3⟩
      isplitl [H1]; · iexact H1
      isplitl [H2]; · iexact H2
      iexact H3
    iapply hl
    isplitl [Hat]; · iexact Hat
    iexact Htk

/-- The launch's step over all devices at once: the semaphores become cells under invariants, the tokens go to their payers. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-- A device's launch resources are what its body starts from, -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- with the scratch buffers beside them; -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ bufs
  iintro ⟨Hs, -, Hr⟩
  isplitl [Hs]; · iexact Hs
  iexact Hr

/-- and what it holds at the end has every semaphore back at zero. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ bufs
  iintro ⟨Hr, Hd, Hb⟩
  isplitl [Hb]; · iexact Hb
  isplitl [Hd]
  · iapply (perOut_elim c); iexact Hd
  iexact Hr

/-- The pipeline may wait on its staging semaphores whatever the device still owes. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ payAll (by fin_cases w <;> fin_cases s <;> decide)
    · exact mayWait c _ [] (by intro p hp; cases hp)

/-! ## The run -/

/-- What an array holds after the run. -/
def finalA (c : Dev nD) (w : Fin cfg0.W) : Buf (Elt F) ((cfg0.win w).arr.view.loc (c : Thread nD τ)) := (dats m ρ 0 c).arrAt w cfg0.N

/-- Every device's every array holds that. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every counter at zero, every fair run of the program on the thirty-two devices ends, with each
    array at its computed contents and every counter back at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP]; · iexact HP
      iexact HG)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- The inputs end as they began. -/
theorem finalA_x (c : Dev nD) : finalA m ρ c (0 : Fin 3) = (s₀ m ρ).mem (win0_0.arr.view.loc (c : Thread nD τ)) :=
  (dats (F := F) m ρ 0 c).arrAt_in (0 : Fin 3) rfl _
/-- and so is `W`'s. -/
theorem finalA_w (c : Dev nD) : finalA m ρ c (1 : Fin 3) = (s₀ m ρ).mem (win0_1.arr.view.loc (c : Thread nD τ)) :=
  (dats (F := F) m ρ 0 c).arrAt_in (1 : Fin 3) rfl _

end Cert.KProof

end
-- ==== Proof.Frames.lean ====
/-
# `Frames`: the three programs run, leave their arguments as they were, and every counter at zero
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.KProof

open Idealize.ShloMosaic Idealize.SL.Sem

variable {F : FTy → Type} [FloatOps F]

/-- From any memory, for any float values: the kernel's run ends with both arguments as they were and every counter at zero. -/
theorem frame_run (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (finalA_x m ρ c), (h.1 c (1 : Fin 3)).trans (finalA_w m ρ c)⟩, h.2⟩) (run_main m ρ)

set_option maxRecDepth 16000 in
/-- The two programs' kernels are the same text. -/
theorem same_kernels : Cert.Kernel.defs₀ (F := F) = Cert.KernelIdeal.defs₀ (F := F) := by
  funext pr l a
  cases pr
  · match l, a with
    | 0, (t, s) => rfl
    | ⟨_ + 1, h⟩, _ => exact absurd h (Nat.not_lt.2 (Nat.le_add_left _ _))
  all_goals rfl

/-- The two programs' body tables are the same. -/
theorem same_defs : Cert.Kernel.defs (F := F) = Cert.KernelIdeal.defs (F := F) :=
  congrArg (Pipeline.defs (Cert.KernelIdeal.pcfgs (F := F))) same_kernels

/-- The kernel's frame, on bit patterns, from the run of the idealized program, whose text is the same. -/
theorem frame_kernel : Cert.quiescent_Kernel := fun m ρ _ => by
  rw [same_defs]
  exact frame_run (F := Bits) m ρ

/-- The idealized kernel's frame. -/
theorem frame_ideal : Cert.quiescent_KernelIdeal := fun m ρ _ => frame_run (F := Ideal) m ρ

/-- The reference's frame: it names no semaphore, so every counter stays at zero. -/
theorem frame_reference : Cert.quiescent_ReferenceIdeal := fun m ρ _ =>
  (θ_run Cert.ReferenceIdeal.defs _ _).mono
    (fun r h => ⟨fun c => ⟨(h c).2.1, (h c).2.2⟩, Idealize.ShloMosaic.sem_eq_zero_of_no_sems (by decide) r.2⟩)
    (Cert.ReferenceIdeal.Value.run (F := Ideal) m ρ)

end Cert.KProof

end
-- ==== Proof.Num.lean ====
/-
# `Num`: the arithmetic of the extended reals that the value claim rests on

The quantiser maps a finite logit to an integer in [-127, 127], which an 8-bit word holds exactly; and a softmax of
finite numbers is unchanged when a number is subtracted from all of them.
-/
module

public import Idealize.ShloMosaic.PureOps.Ideal
public import Idealize.ShloMosaic.PureOps.Ideal.Laws
public import Idealize.ShloMosaic.Lib.IdealHost

@[expose] public section

noncomputable section

namespace Cert.KProof

open Idealize.ShloMosaic

/-- The extended real is a real number. -/
def IsReal (a : EReal) : Prop := ∃ r : ℝ, a = (r : EReal)

/-- A product of two real numbers is one. -/
theorem IsReal.mul {a b : EReal} : IsReal a → IsReal b → IsReal (a * b)
  | ⟨r, hr⟩, ⟨s, hs⟩ => ⟨r * s, by rw [hr, hs, EReal.coe_mul]⟩

/-- A finite sum of real numbers is one. -/
theorem IsReal.sum {ι : Type} (s : Finset ι) (f : ι → EReal) (h : ∀ i, IsReal (f i)) : IsReal (∑ i ∈ s, f i) := by
  choose g hg using h
  refine ⟨∑ i ∈ s, g i, ?_⟩
  rw [Finset.sum_congr rfl fun i _ => hg i]
  exact (map_sum (⟨⟨Real.toEReal, EReal.coe_zero⟩, EReal.coe_add⟩ : ℝ →+ EReal) g s).symm

/-! ## The constants -/

/-- The quantiser's scale, its bounds and the scale back, as the extended reals that their words denote. -/
def cSc : EReal := Ideal.ofBits .f32 0x42295555#32
def cLo : EReal := Ideal.ofBits .f32 0xC2FE0000#32
def cHi : EReal := Ideal.ofBits .f32 0x42FE0000#32
def cInv : EReal := Ideal.ofBits .f32 0x3CC18306#32

/-- The bounds are -127 and 127, and the two scales are real. -/
theorem cLo_eq : cLo = ((-127 : ℝ) : EReal) := by
  unfold cLo
  simp [Ideal.ofBits, Ideal.ieee, -EReal.coe_mul, -EReal.coe_neg]; norm_num
theorem cHi_eq : cHi = ((127 : ℝ) : EReal) := by
  unfold cHi
  simp [Ideal.ofBits, Ideal.ieee, -EReal.coe_mul, -EReal.coe_neg]; norm_num
theorem cSc_real : IsReal cSc := by
  unfold cSc
  simp only [Ideal.ofBits, Ideal.ieee]
  exact ⟨_, rfl⟩
theorem cInv_real : IsReal cInv := by
  unfold cInv
  simp only [Ideal.ofBits, Ideal.ieee]
  exact ⟨_, rfl⟩

/-! ## The quantiser -/

/-- The code of a logit: scaled, rounded to nearest with ties to even, clipped. -/
def quant (l : EReal) : EReal := min cHi (max cLo (Ideal.liftRound Ideal.roundHalfEven (l * cSc)))

/-- The code of a finite logit is an integer of at most seven bits and a sign. -/
theorem quant_int (l : EReal) (hl : IsReal l) : ∃ n : ℤ, -127 ≤ n ∧ n ≤ 127 ∧ quant l = ((n : ℝ) : EReal) := by
  obtain ⟨r, hr⟩ := hl.mul cSc_real
  refine ⟨min 127 (max (-127) (Ideal.roundHalfEven r)), by omega, by omega, ?_⟩
  unfold quant
  rw [hr, Ideal.liftRound_coe, cHi_eq, cLo_eq, ← EReal.coe_strictMono.monotone.map_max, ← EReal.coe_strictMono.monotone.map_min]
  congr 1
  push_cast
  rfl

/-- An 8-bit word holds the code of a finite logit exactly. -/
theorem quant_word (l : EReal) (hl : IsReal l) : ((((Ideal.fptosi 8 (quant l)).toInt : ℝ)) : EReal) = quant l := by
  obtain ⟨n, h1, h2, h⟩ := quant_int l hl
  rw [h]
  congr 1
  have e : Ideal.toIntClamped (-(2 ^ (8 - 1) : Nat)) ((2 ^ (8 - 1) : Nat) - 1) ((n : ℝ) : EReal) = n := by
    show max _ (min _ (if 0 ≤ (n : ℝ) then ⌊(n : ℝ)⌋ else ⌈(n : ℝ)⌉)) = n
    rw [Int.floor_intCast, Int.ceil_intCast, ite_self]
    norm_num
    omega
  unfold Ideal.fptosi
  rw [e, BitVec.toInt_ofInt_eq_self (by decide) (by norm_num; omega) (by norm_num; omega)]

/-- The value that a code stands for. -/
def coded (l : EReal) : EReal := quant l * cInv

/-- It is real, of a finite logit. -/
theorem coded_real (l : EReal) (hl : IsReal l) : IsReal (coded l) := by
  obtain ⟨n, -, -, h⟩ := quant_int l hl
  exact IsReal.mul ⟨_, h⟩ cInv_real

/-! ## The softmax -/

/-- The maximum of finitely many real numbers, taken from minus infinity, is a real number. -/
theorem fold_max_real {n : ℕ} [NeZero n] (f : Fin n → EReal) (h : ∀ i, IsReal (f i)) : IsReal (Finset.univ.fold max ⊥ f) := by
  have key : ∀ s : Finset (Fin n), s.fold max ⊥ f = ⊥ ∧ s = ∅ ∨ IsReal (s.fold max ⊥ f) := fun s => by
    induction s using Finset.induction_on with
    | empty => exact .inl ⟨rfl, rfl⟩
    | insert a s ha ih =>
      right
      rw [Finset.fold_insert ha]
      obtain ⟨r, hr⟩ := h a
      rcases ih with ⟨e, -⟩ | ⟨t, ht⟩
      · rw [e, hr]; exact ⟨r, max_eq_left bot_le⟩
      · rw [ht, hr]; exact ⟨max r t, EReal.coe_strictMono.monotone.map_max.symm⟩
  rcases key Finset.univ with ⟨-, e⟩ | h
  · exact absurd e (Finset.univ_nonempty.ne_empty)
  · exact h

/-- Dividing by the sum of the exponentials, with a real number subtracted from every exponent, is multiplying by the
    reciprocal of the sum without it. -/
theorem softmax_shift {n : ℕ} [NeZero n] (f : Fin n → EReal) (h : ∀ i, IsReal (f i)) (m : EReal) (hm : IsReal m) (i : Fin n) :
    Ideal.div (Ideal.exp (f i - m)) (0 + ∑ j, Ideal.exp (f j - m)) = Ideal.exp (f i) * Ideal.div 1 (∑ j, Ideal.exp (f j)) := by
  obtain ⟨μ, rfl⟩ := hm
  choose g hg using h
  have e1 : ∀ j, Ideal.exp (f j - (μ : EReal)) = ((Real.exp (g j - μ) : ℝ) : EReal) := fun j => by
    rw [hg j, ← EReal.coe_sub, Ideal.exp_coe]
  have e2 : ∀ j, Ideal.exp (f j) = ((Real.exp (g j) : ℝ) : EReal) := fun j => by rw [hg j, Ideal.exp_coe]
  have es : ∀ t : Fin n → ℝ, (∑ j, ((t j : ℝ) : EReal)) = ((∑ j, t j : ℝ) : EReal) := fun t =>
    (map_sum (⟨⟨Real.toEReal, EReal.coe_zero⟩, EReal.coe_add⟩ : ℝ →+ EReal) t Finset.univ).symm
  rw [e1 i, e2 i, Finset.sum_congr rfl fun j _ => e1 j, Finset.sum_congr rfl fun j _ => e2 j, es, es, zero_add]
  have p1 : 0 < ∑ j, Real.exp (g j - μ) := Finset.sum_pos (fun j _ => Real.exp_pos _) Finset.univ_nonempty
  have p2 : 0 < ∑ j, Real.exp (g j) := Finset.sum_pos (fun j _ => Real.exp_pos _) Finset.univ_nonempty
  have hs : ∑ j, Real.exp (g j - μ) = (∑ j, Real.exp (g j)) * Real.exp (-μ) := by
    rw [Finset.sum_mul]
    exact Finset.sum_congr rfl fun j _ => by rw [← Real.exp_add, sub_eq_add_neg]
  unfold Ideal.div
  rw [if_neg (by exact_mod_cast p1.ne'), if_neg (by exact_mod_cast p2.ne'), one_mul, ← EReal.coe_inv, ← EReal.coe_inv, ← EReal.coe_mul, ← EReal.coe_mul]
  congr 1
  rw [hs, sub_eq_add_neg, Real.exp_add]
  have := (Real.exp_pos (-μ)).ne'
  field_simp

end Cert.KProof

end
-- ==== Proof.RefValue.lean ====
/-
# `RefValue`: the reference's result, read at an index
-/
module

public import proofs.«01_k».proof.Proof.Num
public import proofs.«01_k».proof.Proof.Gen.ReferenceIdeal
public import proofs.«01_k».proof.Proof.Gen.ReferenceIdeal.Run
public import Idealize.ShloMosaic.Lib.Pointwise
public import Idealize.ShloMosaic.Lib.WordCmp

@[expose] public section

set_option maxRecDepth 16384

noncomputable section

namespace Cert.KProof.Ref

open Cert.ReferenceIdeal Cert.ReferenceIdeal.Gen
open Idealize.ShloMosaic
open Idealize.ShloMosaic.TcCoe

variable (X : FVec Ideal S256x512 .bf16) (W : FVec Ideal S512x16384 .bf16)

/-- The logits of the reference. -/
def logits : FVec Ideal S256x16384 .f32 :=
  Host.dotGeneral dot_S256x512_S512x16384_S256x16384_1_0_0_1_n_n none (extf .f32 X bitsLt_bf16_f32) (extf .f32 W bitsLt_bf16_f32)

/-- The values that their codes stand for. -/
def dequant (l : FVec Ideal S256x16384 .f32) : FVec Ideal S256x16384 .f32 :=
  mulf (minimumf (broadcastInDim S256x16384 ![] bcast_S_S256x16384 (id (constant S_ .f32 0x42FE0000#32)))
    (maximumf (broadcastInDim S256x16384 ![] bcast_S_S256x16384 (id (constant S_ .f32 0xC2FE0000#32)))
      (Host.roundeven (mulf l (broadcastInDim S256x16384 ![] bcast_S_S256x16384 (constant S_ .f32 0x42295555#32))))))
    (broadcastInDim S256x16384 ![] bcast_S_S256x16384 (constant S_ .f32 0x3CC18306#32))

/-- What the device that owns the columns from `lo` to `hi` sees: its own logits, the others' codes. -/
def seenV (lo hi : BitVec 32) (l : FVec Ideal S256x16384 .f32) : FVec Ideal S256x16384 .f32 :=
  select (andi (cmpi .sge (iotaInDim S256x16384 32 1) (broadcastInDim S256x16384 ![] bcast_S_S256x16384 (constantI S_ 32 lo)))
    (cmpi .slt (iotaInDim S256x16384 32 1) (broadcastInDim S256x16384 ![] bcast_S_S256x16384 (constantI S_ 32 hi)))) l (dequant l)

/-- The exponentials, the row's maximum subtracted. -/
def expV (s : FVec Ideal S256x16384 .f32) : FVec Ideal S256x16384 .f32 :=
  Host.exp (subf s (broadcastInDim S256x16384 ![0, 1] bcast_S256x1_S256x16384_0_1 (broadcastInDim S256x1 ![0] bcast_S256_S256x1_0
    (Host.reduce FloatOps.maximumf s (constant S_ .f32 0xFF800000#32) reducesTo_S256x16384_S256_d1 h_S_))))

/-- The softmax of the rows. -/
def softV (s : FVec Ideal S256x16384 .f32) : FVec Ideal S256x16384 .bf16 :=
  truncf .bf16 (Host.divf (expV s) (broadcastInDim S256x16384 ![0, 1] bcast_S256x1_S256x16384_0_1 (broadcastInDim S256x1 ![0] bcast_S256_S256x1_0
    (Host.reduceAdd (expV s) (constant S_ .f32 0x00000000#32) reducesTo_S256x16384_S256_d1 h_S_)))) bitsLt_bf16_f32

/-- The whole result. -/
def whole : FVec Ideal S1024x16384 .bf16 :=
  concatenate S1024x16384 0 [⟨S256x16384, softV (seenV 0#32 4096#32 (logits X W))⟩, ⟨S256x16384, softV (seenV 4096#32 8192#32 (logits X W))⟩,
    ⟨S256x16384, softV (seenV 8192#32 12288#32 (logits X W))⟩, ⟨S256x16384, softV (seenV 12288#32 16384#32 (logits X W))⟩]
    concatenates_S256x16384_S256x16384_S256x16384_S256x16384_S1024x16384_d0

/-- The generated term is that. -/
theorem res_eq (m : (ℓ : Loc nD τ sig) → Buf (Elt Ideal) ℓ) (c : Dev nD) :
    Cert.ReferenceIdeal.Value.res_main_v77 m c = whole (m ((c.tc : Thread nD τ).loc main_arg0)) (m ((c.tc : Thread nD τ).loc main_arg1)) := by
  unfold Cert.ReferenceIdeal.Value.res_main_v77 whole
  rfl

/-- The logit at row `r`, column `j`. -/
def lg (r : Fin 256) (j : Fin 16384) : EReal := ∑ k : Fin 512, X (ix2 r k) * W (ix2 k j)

/-- The reference's logits are that; -/
theorem logits_apply (r : Fin 256) (j : Fin 16384) : logits X W (ix2 r j) = lg X W r j := by
  unfold lg
  pointwise [logits]

/-- its dequantised codes are those of `coded`; -/
theorem dequant_apply (l : FVec Ideal S256x16384 .f32) (r : Fin 256) (j : Fin 16384) : dequant l (ix2 r j) = coded (l (ix2 r j)) := by
  unfold coded quant cSc cLo cHi cInv
  pointwise [dequant]
  rfl

/-- what it lets a device see is exact in the device's columns and coded elsewhere. -/
theorem seenV_apply (a b : ℕ) (ha : a ≤ 16384) (hb : b ≤ 16384) (l : FVec Ideal S256x16384 .f32) (r : Fin 256) (j : Fin 16384) :
    seenV (BitVec.ofNat 32 a) (BitVec.ofNat 32 b) l (ix2 r j) = if a ≤ j.val ∧ j.val < b then l (ix2 r j) else coded (l (ix2 r j)) := by
  have hj := j.isLt
  rw [← dequant_apply]
  pointwise [seenV]
  have h : (IntOp.andi (IntOp.cmpi CmpIPredicate.sge (BitVec.ofNat 32 j.val) (BitVec.ofNat 32 a)) (IntOp.cmpi CmpIPredicate.slt (BitVec.ofNat 32 j.val) (BitVec.ofNat 32 b)) = 1#1)
      ↔ (a ≤ j.val ∧ j.val < b) := by
    rw [IntOp.andi_eq_one, WordCmp.cmpi_sge_ofNat_eq_one_iff (by omega) (by omega), WordCmp.cmpi_slt_ofNat_eq_one_iff (by omega) (by omega)]
  exact if_congr h rfl rfl

/-- The maximum starts from minus infinity. -/
theorem ninf_eq : Ideal.ofBits .f32 0xFF800000#32 = ⊥ := by
  simp [Ideal.ofBits, Ideal.ieee]

/-- The exponentials and -/
theorem expV_apply (s : FVec Ideal S256x16384 .f32) (r : Fin 256) (j : Fin 16384) :
    expV s (ix2 r j) = Ideal.exp (s (ix2 r j) - Finset.univ.fold max ⊥ fun k : Fin 16384 => s (ix2 r k)) := by
  rw [← ninf_eq]
  pointwise [expV]

/-- the softmax, read at an index. -/
theorem softV_apply (s : FVec Ideal S256x16384 .f32) (r : Fin 256) (j : Fin 16384) :
    softV s (ix2 r j) = Ideal.div (expV s (ix2 r j)) (0 + ∑ k : Fin 16384, expV s (ix2 r k)) := by
  pointwise [softV]

/-- What the owner of block `z` sees of the logit at row `r`, column `j`. -/
def seen (z : ℕ) (r : Fin 256) (j : Fin 16384) : EReal := if j.val / 4096 = z then lg X W r j else coded (lg X W r j)

/-- The reference's columns of block `z` are the ones that its owner sees exactly. -/
theorem seenV_eq (z : ℕ) (hz : z < 4) (r : Fin 256) (j : Fin 16384) :
    seenV (BitVec.ofNat 32 (4096 * z)) (BitVec.ofNat 32 (4096 * z + 4096)) (logits X W) (ix2 r j) = seen X W z r j := by
  rw [seenV_apply _ _ (by omega) (by omega), logits_apply]
  unfold seen
  exact if_congr (by omega) rfl rfl

/-- Row `r` of the rows of block `z` is the softmax of what its owner sees. -/
theorem whole_apply (z : ℕ) (hz : z < 4) (r : Fin 256) (j : Fin 16384) (i : Fin 1024) (hi : i.val = 256 * z + r.val) :
    whole X W (ix2 i j) = softV (seenV (BitVec.ofNat 32 (4096 * z)) (BitVec.ofNat 32 (4096 * z + 4096)) (logits X W)) (ix2 r j) := by
  have hr := r.isLt
  pointwise [whole]
  interval_cases z
  · rw [dif_pos (by omega)]; congr 1; congr 1; exact Fin.ext (by show i.val = r.val; omega)
  · rw [dif_neg (by omega), dif_pos (by omega)]; congr 1; congr 1; exact Fin.ext (by show i.val - 256 = r.val; omega)
  · rw [dif_neg (by omega), dif_neg (by omega), dif_pos (by omega)]; congr 1; congr 1; exact Fin.ext (by show i.val - 256 - 256 = r.val; omega)
  · rw [dif_neg (by omega), dif_neg (by omega), dif_neg (by omega)]; congr 1; congr 1; exact Fin.ext (by show i.val - 256 - 256 - 256 = r.val; omega)

/-- The reference's result at row `r` of the rows of block `z`, of finite logits: the exponential of what the block's
    owner sees there, times the reciprocal of the sum of the row's. -/
theorem whole_eq (hl : ∀ r j, IsReal (lg X W r j)) (z : ℕ) (hz : z < 4) (r : Fin 256) (j : Fin 16384) (i : Fin 1024) (hi : i.val = 256 * z + r.val) :
    whole X W (ix2 i j) = Ideal.exp (seen X W z r j) * Ideal.div 1 (∑ k, Ideal.exp (seen X W z r k)) := by
  have hs : ∀ k, IsReal (seen X W z r k) := fun k => by
    unfold seen
    split
    · exact hl r k
    · exact coded_real _ (hl r k)
  rw [whole_apply X W z hz r j i hi, softV_apply]
  simp only [expV_apply, seenV_eq X W z hz]
  exact softmax_shift (seen X W z r) hs _ (fold_max_real _ hs) j

end Cert.KProof.Ref

end
-- ==== Proof.Logits.lean ====
/-
# `Logits`: what the kernel computes of its inputs, read at an index

The blocks of the logits that a device computes are the blocks of the reference's logits; the exponentials that it
stores, and their row sums, are those of what the reference says that a device sees.
-/
module

public import proofs.«01_k».proof.Proof.Num
public import proofs.«01_k».proof.Proof.RefValue
public import proofs.«01_k».proof.Proof.Out
public import Idealize.ShloMosaic.Lib.Pointwise
public import Idealize.ShloMosaic.Lib.Layout

@[expose] public section

set_option maxRecDepth 16384

noncomputable section

namespace Cert.KProof

open Cert.KernelIdeal Cert.KernelIdeal.Gen
open Idealize.ShloMosaic
open Idealize.ShloMosaic.TcCoe

variable (m : (ℓ : Loc nD τ sig) → Buf (Elt Ideal) ℓ) (ρ : Dev nD → PrngReg)

/-- The mesh holds `X` on every device and `W` cut along its columns over `z`. -/
def Holds (X : FVec Ideal S256x512 .bf16) (W : FVec Ideal Cert.ReferenceIdeal.S512x16384 .bf16) : Prop :=
  ∀ c : Dev nD, m ((c : Thread nD τ).loc main_arg0) = X
    ∧ m ((c : Thread nD τ).loc main_arg1) = Layout.blockN ⟨2, ![512, 4096]⟩ ⟨2, ![512, 16384]⟩ (Layout.meshBlock [2, 4, 4] ![[], [2]] c) W

variable {X : FVec Ideal S256x512 .bf16} {W : FVec Ideal Cert.ReferenceIdeal.S512x16384 .bf16} (H : Holds m X W)
include H

omit H in
/-- The first window's block is its whole array; -/
theorem emb0 (i : S256x512.Idx) : (win0_0.blk (0 : Fin 1)).view.emb i = i :=
  funext fun a => Fin.ext (by show 0 * S256x512.size a + 1 * (i a).val = (i a).val; omega)
omit H in
/-- and so is the second's; -/
theorem emb1 (i : S512x4096.Idx) : (win0_1.blk (0 : Fin 1)).view.emb i = i :=
  funext fun a => Fin.ext (by show 0 * S512x4096.size a + 1 * (i a).val = (i a).val; omega)
omit H in
/-- and the third's. -/
theorem emb2 (i : S256x16384.Idx) : (win0_2.blk (0 : Fin 1)).view.emb i = i :=
  funext fun a => Fin.ext (by show 0 * S256x16384.size a + 1 * (i a).val = (i a).val; omega)

/-- What a device stages of `x` is `X`. -/
theorem xin_eq (c : Dev nD) : xin m ρ c = X := by
  rw [← (H c).1]
  unfold xin
  funext i
  show m ((c : Thread nD τ).loc main_arg0) ((win0_0.blk (0 : Fin 1)).view.emb i) = _
  rw [emb0]

/-- What a device stages of `W` is its `4096` columns of `W`. -/
theorem win_apply (c : Dev nD) (q : Fin 512) (j : Fin 4096) :
    win m ρ c (ix2 q j) = W (ix2 q ⟨4096 * (c.val % 4) + j.val, by have := j.isLt; omega⟩) := by
  have e : win m ρ c (ix2 q j) = m ((c : Thread nD τ).loc main_arg1) (ix2 q j) := by
    unfold win
    show m ((c : Thread nD τ).loc main_arg1) ((win0_1.blk (0 : Fin 1)).view.emb (ix2 q j)) = _
    rw [emb1]
  rw [e, (H c).2]
  rw [Layout.blockN_apply]
  congr 1
  funext a
  apply Fin.ext
  rw [Layout.TilesN.idx_val]
  match a with
  | 0 => show 0 * 512 + q.val = q.val; omega
  | 1 => show (c.val / 1 % 4 * 1 + 0) * 4096 + j.val = 4096 * (c.val % 4) + j.val; omega

/-- Piece `p` of the columns that a device sends, read at an index; -/
theorem wPc_apply (c : Dev nD) (p : Fin 2) (q : Fin 512) (k : Fin 1024) (j : Fin 16384) (hj : j.val = 4096 * (c.val % 4) + 2048 * (c.val / 16) + 1024 * p.val + k.val) :
    wPc m ρ c p (ix2 q k) = W (ix2 q j) := by
  have hc : c.val < 32 := c.isLt
  have hp := p.isLt; have hk := k.isLt
  have e := win_apply m ρ H c q ⟨2048 * (c.val / 16) + 1024 * p.val + k.val, by omega⟩
  rw [show (⟨4096 * (c.val % 4) + (⟨2048 * (c.val / 16) + 1024 * p.val + k.val, by omega⟩ : Fin 4096).val, by dsimp only; omega⟩ : Fin 16384) = j from Fin.ext (by dsimp only; omega)] at e
  rw [← e]
  unfold wPc
  show win m ρ c _ = _
  congr 1
  funext a
  apply Fin.ext
  have ho := k0_off1_eq c p
  match a with
  | 0 => show k0_off1 c (BitVec.ofNat 32 (1024 * p.val)) 0 + 1 * q.val = q.val; rw [ho]; show 0 + 1 * q.val = _; omega
  | 1 => show k0_off1 c (BitVec.ofNat 32 (1024 * p.val)) 1 + 1 * k.val = 2048 * (c.val / 16) + 1024 * p.val + k.val; rw [ho]; show 2048 * (c.val / 16) + 1024 * p.val + 1 * k.val = _; omega

/-- and the other half of its columns. -/
theorem wOther_apply (c : Dev nD) (q : Fin 512) (k : Fin 2048) (j : Fin 16384) (hj : j.val = 4096 * (c.val % 4) + 2048 * (1 - c.val / 16) + k.val) :
    wOther m ρ c (ix2 q k) = W (ix2 q j) := by
  have hc : c.val < 32 := c.isLt
  have hk := k.isLt
  have e := win_apply m ρ H c q ⟨2048 * (1 - c.val / 16) + k.val, by omega⟩
  rw [show (⟨4096 * (c.val % 4) + (⟨2048 * (1 - c.val / 16) + k.val, by omega⟩ : Fin 4096).val, by dsimp only; omega⟩ : Fin 16384) = j from Fin.ext (by dsimp only; omega)] at e
  rw [← e]
  unfold wOther
  show win m ρ c _ = _
  congr 1
  funext a
  apply Fin.ext
  have ho := k0_off2_eq c
  match a with
  | 0 => show k0_off2 c 0 + 1 * q.val = q.val; rw [ho]; show 0 + 1 * q.val = _; omega
  | 1 => show k0_off2 c 1 + 1 * k.val = 2048 * (1 - c.val / 16) + k.val; rw [ho]; show 2048 - 2048 * (c.val / 16) + 1 * k.val = _; omega

/-- So the logits of the piece are the reference's; -/
theorem lgPc_apply (c : Dev nD) (p : Fin 2) (r : Fin 256) (k : Fin 1024) (j : Fin 16384) (hj : j.val = 4096 * (c.val % 4) + 2048 * (c.val / 16) + 1024 * p.val + k.val) :
    lgPc m ρ c p (ix2 r k) = Ref.lg X W r j := by
  unfold lgPc Ref.lg
  rw [xin_eq m ρ H c]
  simp only [← wPc_apply m ρ H c p _ k j hj]
  pointwise [k0_pay3, k0_pay2]

/-- and so are those of the other half. -/
theorem lgOther_apply (c : Dev nD) (r : Fin 256) (k : Fin 2048) (j : Fin 16384) (hj : j.val = 4096 * (c.val % 4) + 2048 * (1 - c.val / 16) + k.val) :
    lgOther m ρ c (ix2 r k) = Ref.lg X W r j := by
  unfold lgOther Ref.lg
  rw [xin_eq m ρ H c]
  simp only [← wOther_apply m ρ H c _ k j hj]
  pointwise [k0_pay7, k0_pay2]

end Cert.KProof

end
-- ==== Proof.Values.lean ====
/-
# `Values`: the kernel's result, read at an index

The exponentials that a device stores are those of what the reference says that it sees; the row sums that it adds up
piece by piece are the sums of all the columns; and its result is their quotient, which is the reference's softmax.
-/
module

public import proofs.«01_k».proof.Proof.Logits

@[expose] public section

set_option maxRecDepth 16384

noncomputable section

namespace Cert.KProof

open Cert.KernelIdeal Cert.KernelIdeal.Gen
open Idealize.ShloMosaic
open Idealize.ShloMosaic.TcCoe

variable (m : (ℓ : Loc nD τ sig) → Buf (Elt Ideal) ℓ) (ρ : Dev nD → PrngReg)

/-! ## The pieces, of any contents -/

/-- The two ways to name an index agree. -/
theorem at1_ix (r : Fin 256) (k : Fin 1024) : at1 r k = ix2 r k := funext fun a => by match a with | 0 => rfl | 1 => rfl
theorem at2_ix (r : Fin 256) (k : Fin 2048) : at2 r k = ix2 r k := funext fun a => by match a with | 0 => rfl | 1 => rfl

/-- The exponential that is stored of a code of a finite logit is that of the value the code stands for. -/
theorem stq_code (c : Dev nD) (p : Fin 2) (r : Fin 256) (k : Fin 1024) (h : IsReal (lgPc m ρ c p (ix2 r k))) :
    stq (code m ρ c p) (ix2 r k) = Ideal.exp (coded (lgPc m ρ c p (ix2 r k))) := by
  unfold coded
  rw [← quant_word _ h]
  unfold quant cSc cLo cHi cInv
  generalize hl : lgPc m ρ c p = l
  unfold code
  rw [hl]
  pointwise [stq, k0_pay17, k0_pay15, k0_pay4]
  rfl

/-- The exponentials of exact logits. -/
theorem pay11_apply (l : FVec Ideal S256x1024 .f32) (r : Fin 256) (k : Fin 1024) : k0_pay11 l (ix2 r k) = Ideal.exp (l (ix2 r k)) := by
  pointwise [k0_pay11, k0_pay10]
/-- The exponentials of the other half's exact logits. -/
theorem pay9_apply (l : FVec Ideal S256x2048 .f32) (r : Fin 256) (k : Fin 2048) : k0_pay9 l (ix2 r k) = Ideal.exp (l (ix2 r k)) := by
  pointwise [k0_pay9, k0_pay8]

/-- Adding a received piece's row sums adds the stored exponentials. -/
theorem addS_apply (s : FVec Ideal S256x1 .f32) (Y : Vec Ideal S1x1x256x1024 .i8) (r : Fin 256) :
    addS s Y (ix2 r 0) = s (ix2 r 0) + ∑ k : Fin 1024, stq Y (ix2 r k) := by
  have e : ∀ k : Fin 1024, stq Y (ix2 r k) = k0_pay15 Y (ix2 r k) := fun k => rfl
  simp only [e]
  generalize hE : k0_pay15 Y = E
  unfold addS k0_pay16
  rw [hE]
  pointwise []

/-- The row sums of the device's own block. -/
theorem pay13_apply (a b : FVec Ideal S256x1024 .f32) (l : FVec Ideal S256x2048 .f32) (r : Fin 256) :
    k0_pay13 a b l (ix2 r 0) = (∑ k : Fin 2048, Ideal.exp (l (ix2 r k))) + (∑ k : Fin 1024, Ideal.exp (a (ix2 r k))) + ∑ k : Fin 1024, Ideal.exp (b (ix2 r k)) := by
  pointwise [k0_pay13, k0_pay12, k0_pay10, k0_pay8]

/-- The last scaling. -/
theorem pay1_apply (s : FVec Ideal S256x1 .f32) (E : Vec Ideal S256x16384 .bf16) (r : Fin 256) (j : Fin 16384) :
    k0_pay1 s E (ix2 r j) = E (ix2 r j) * Ideal.div 1 (s (ix2 r 0)) := by
  have h1 : Ideal.ofBits .f32 0x3F800000#32 = 1 := by
    simp [Ideal.ofBits, Ideal.ieee, -EReal.coe_mul]; norm_num
  rw [← h1]
  pointwise [k0_pay1]

/-! ## The pieces of a device -/

/-- The device `h` steps down the ring, its block and its half; -/
theorem zb_pos : ∀ (c : Dev nD) (h : Fin 4), (zb h.val c).val % 4 = (c.val % 4 + 4 - h.val) % 4 ∧ (zb h.val c).val / 16 = c.val / 16 := by
  decide +kernel
/-- and those of the device `h` steps down the ring of the other half. -/
theorem zb_flip_pos : ∀ (c : Dev nD) (h : Fin 4), (zb h.val (flip c)).val % 4 = (c.val % 4 + 4 - h.val) % 4 ∧ (zb h.val (flip c)).val / 16 = 1 - c.val / 16 := by
  decide +kernel

variable {X : FVec Ideal S256x512 .bf16} {W : FVec Ideal Cert.ReferenceIdeal.S512x16384 .bf16} (H : Holds m X W)
  (hl : ∀ r j, IsReal (Ref.lg X W r j))

/-- The exponential of what the device sees at row `r`, column `j`. -/
def E (X : FVec Ideal S256x512 .bf16) (W : FVec Ideal Cert.ReferenceIdeal.S512x16384 .bf16) (c : Dev nD) (r : Fin 256) (j : Fin 16384) : EReal :=
  Ideal.exp (Ref.seen X W (c.val % 4) r j)

include H
/-- An exact piece of its own block; -/
theorem own_val (c : Dev nD) (p : Fin 2) (r : Fin 256) (k : Fin 1024) (j : Fin 16384) (hj : j.val = 4096 * (c.val % 4) + 2048 * (c.val / 16) + 1024 * p.val + k.val) :
    Ideal.exp (lgPc m ρ c p (ix2 r k)) = E X W c r j := by
  have hc : c.val < 32 := c.isLt
  have hp := p.isLt; have hk := k.isLt
  unfold E Ref.seen
  rw [lgPc_apply m ρ H c p r k j hj, if_pos (by omega)]
/-- the exact other half; -/
theorem other_val (c : Dev nD) (r : Fin 256) (k : Fin 2048) (j : Fin 16384) (hj : j.val = 4096 * (c.val % 4) + 2048 * (1 - c.val / 16) + k.val) :
    Ideal.exp (lgOther m ρ c (ix2 r k)) = E X W c r j := by
  have hc : c.val < 32 := c.isLt
  have hk := k.isLt
  unfold E Ref.seen
  rw [lgOther_apply m ρ H c r k j hj, if_pos (by omega)]
include hl
/-- a received piece of the device's ring; -/
theorem zc_val (c : Dev nD) (h : Fin 4) (h0 : 0 < h.val) (p : Fin 2) (r : Fin 256) (k : Fin 1024) (j : Fin 16384)
    (hj : j.val = 4096 * ((c.val % 4 + 4 - h.val) % 4) + 2048 * (c.val / 16) + 1024 * p.val + k.val) :
    stq (zc m ρ c h.val p) (ix2 r k) = E X W c r j := by
  have hc : c.val < 32 := c.isLt
  have hp := p.isLt; have hk := k.isLt; have hh := h.isLt
  obtain ⟨e1, e2⟩ := zb_pos c h
  have e := lgPc_apply m ρ H (zb h.val c) p r k j (by rw [e1, e2]; exact hj)
  unfold E Ref.seen zc
  have hne : (c.val % 4 + 4 - h.val) % 4 ≠ c.val % 4 := by omega
  have hlt : (c.val % 4 + 4 - h.val) % 4 < 4 := Nat.mod_lt _ (by decide)
  rw [if_neg (by clear e1 e2; generalize (c.val % 4 + 4 - h.val) % 4 = z at hj hne hlt; omega), stq_code _ _ _ _ _ _ (by rw [e]; exact hl r j), e]
/-- a received piece of the other ring. -/
theorem xc_val (c : Dev nD) (h : Fin 4) (h0 : 0 < h.val) (p : Fin 2) (r : Fin 256) (k : Fin 1024) (j : Fin 16384)
    (hj : j.val = 4096 * ((c.val % 4 + 4 - h.val) % 4) + 2048 * (1 - c.val / 16) + 1024 * p.val + k.val) :
    stq (xc m ρ c h.val p) (ix2 r k) = E X W c r j := by
  have hc : c.val < 32 := c.isLt
  have hp := p.isLt; have hk := k.isLt; have hh := h.isLt
  obtain ⟨e1, e2⟩ := zb_flip_pos c h
  have e := lgPc_apply m ρ H (zb h.val (flip c)) p r k j (by rw [e1, e2]; exact hj)
  unfold E Ref.seen xc
  have hne : (c.val % 4 + 4 - h.val) % 4 ≠ c.val % 4 := by omega
  have hlt : (c.val % 4 + 4 - h.val) % 4 < 4 := Nat.mod_lt _ (by decide)
  rw [if_neg (by clear e1 e2; generalize (c.val % 4 + 4 - h.val) % 4 = z at hj hne hlt; omega), stq_code _ _ _ _ _ _ (by rw [e]; exact hl r j), e]

/-- So what is stored before the last scaling is the exponential of what the device sees. -/
theorem outE_apply (c : Dev nD) (r : Fin 256) (j : Fin 16384) : outE m ρ c (ix2 r j) = E X W c r j := by
  have hc : c.val < 32 := c.isLt
  have hj := j.isLt
  show outAt m ρ c r (j.val / 4096) (j.val % 4096 / 2048) ⟨j.val % 2048 / 1024, by omega⟩ ⟨j.val % 1024, Nat.mod_lt _ (by decide)⟩ = _
  unfold outAt
  split
  · split
    · rw [at1_ix, pay11_apply]
      exact own_val m ρ H c _ r _ j (by dsimp only; omega)
    · rw [at2_ix, pay9_apply]
      exact other_val m ρ H c r _ j (by dsimp only; omega)
  · have hm : (c.val % 4 + 4 - j.val / 4096) % 4 < 4 := Nat.mod_lt _ (by decide)
    split
    · rw [at1_ix]
      exact zc_val m ρ H hl c ⟨_, hm⟩ (by dsimp only; omega) _ r _ j (by dsimp only; omega)
    · rw [at1_ix]
      exact xc_val m ρ H hl c ⟨_, hm⟩ (by dsimp only; omega) _ r _ j (by dsimp only; omega)

/-! ## The row sums -/

omit H hl in
/-- A sum of `n` blocks of `1024` is the sum of the blocks' sums. -/
theorem sum_blocks (f : ℕ → EReal) (n : ℕ) : ∑ j ∈ Finset.range (1024 * n), f j = ∑ b ∈ Finset.range n, ∑ k ∈ Finset.range 1024, f (1024 * b + k) := by
  induction n with
  | zero => rfl
  | succ n ih => rw [Nat.mul_succ, Finset.sum_range_add, ih, Finset.sum_range_succ _ n]

/-- The exponential at a column counted from the row's start, nothing past its end. -/
def En (X : FVec Ideal S256x512 .bf16) (W : FVec Ideal Cert.ReferenceIdeal.S512x16384 .bf16) (c : Dev nD) (r : Fin 256) (j : ℕ) : EReal :=
  if h : j < 16384 then E X W c r ⟨j, h⟩ else 0

/-- The sum of the exponentials of the columns' block `b` of `1024`. -/
def Sb (X : FVec Ideal S256x512 .bf16) (W : FVec Ideal Cert.ReferenceIdeal.S512x16384 .bf16) (c : Dev nD) (r : Fin 256) (b : ℕ) : EReal :=
  ∑ k ∈ Finset.range 1024, En X W c r (1024 * b + k)

omit H hl in
/-- A block's sum over its columns. -/
theorem Sb_eq (c : Dev nD) (r : Fin 256) (b : ℕ) (f : Fin 1024 → EReal) (hf : ∀ (k : Fin 1024) (j : Fin 16384), j.val = 1024 * b + k.val → f k = E X W c r j) (hb : b < 16) :
    ∑ k, f k = Sb X W c r b := by
  unfold Sb
  rw [Finset.sum_range]
  refine Finset.sum_congr rfl fun k _ => ?_
  have hk := k.isLt
  unfold En
  rw [dif_pos (by omega)]
  exact hf k _ rfl

omit H hl in
/-- The sum over a whole row. -/
theorem row_sum (c : Dev nD) (r : Fin 256) : ∑ j, E X W c r j = ∑ b ∈ Finset.range 16, Sb X W c r b := by
  unfold Sb
  rw [← sum_blocks, Finset.sum_range]
  refine Finset.sum_congr rfl fun j _ => ?_
  unfold En
  rw [dif_pos j.isLt]

/-- The row sums that the device adds up are the sums of all the columns. -/
theorem sumE_apply (c : Dev nD) (r : Fin 256) : sumE m ρ c (ix2 r 0) = ∑ j, E X W c r j := by
  have hc : c.val < 32 := c.isLt
  have own (p : Fin 2) : ∑ k, Ideal.exp (lgPc m ρ c p (ix2 r k)) = Sb X W c r (4 * (c.val % 4) + 2 * (c.val / 16) + p.val) :=
    Sb_eq c r _ _ (fun k j hj => own_val m ρ H c p r k j (by omega)) (by have := p.isLt; omega)
  have oth : ∑ k, Ideal.exp (lgOther m ρ c (ix2 r k)) = Sb X W c r (4 * (c.val % 4) + 2 * (1 - c.val / 16)) + Sb X W c r (4 * (c.val % 4) + 2 * (1 - c.val / 16) + 1) := by
    rw [Fin.sum_univ_add (a := 1024) (b := 1024)]
    congr 1
    · exact Sb_eq c r _ _ (fun k j hj => other_val m ρ H c r _ j (by show j.val = _ + k.val; omega)) (by omega)
    · exact Sb_eq c r _ _ (fun k j hj => other_val m ρ H c r _ j (by show j.val = _ + (1024 + k.val); omega)) (by omega)
  have zs (h : Fin 4) (h0 : 0 < h.val) (p : Fin 2) : ∑ k, stq (zc m ρ c h.val p) (ix2 r k) = Sb X W c r (4 * ((c.val % 4 + 4 - h.val) % 4) + 2 * (c.val / 16) + p.val) :=
    Sb_eq c r _ _ (fun k j hj => zc_val m ρ H hl c h h0 p r k j (by omega)) (by have := p.isLt; omega)
  have xs (h : Fin 4) (h0 : 0 < h.val) (p : Fin 2) : ∑ k, stq (xc m ρ c h.val p) (ix2 r k) = Sb X W c r (4 * ((c.val % 4 + 4 - h.val) % 4) + 2 * (1 - c.val / 16) + p.val) :=
    Sb_eq c r _ _ (fun k j hj => xc_val m ρ H hl c h h0 p r k j (by omega)) (by have := p.isLt; omega)
  have z1 := fun p => zs 1 (by decide) p
  have z2 := fun p => zs 2 (by decide) p
  have z3 := fun p => zs 3 (by decide) p
  have x1 := fun p => xs 1 (by decide) p
  have x2 := fun p => xs 2 (by decide) p
  have x3 := fun p => xs 3 (by decide) p
  simp only [show ((1 : Fin 4).val) = 1 from rfl, show ((2 : Fin 4).val) = 2 from rfl, show ((3 : Fin 4).val) = 3 from rfl] at z1 z2 z3 x1 x2 x3
  unfold sumE
  simp only [addS_apply, pay13_apply, own, oth, z1, z2, z3, x1, x2, x3]
  rw [row_sum]
  simp only [Finset.sum_range_succ, Finset.sum_range_zero, zero_add]
  have hz : c.val % 4 = 0 ∨ c.val % 4 = 1 ∨ c.val % 4 = 2 ∨ c.val % 4 = 3 := by omega
  have hx : c.val / 16 = 0 ∨ c.val / 16 = 1 := by omega
  rcases hz with hz | hz | hz | hz <;> rcases hx with hx | hx <;> rw [hz, hx] <;> norm_num <;> abel

/-- The device's result. -/
theorem outF_apply (c : Dev nD) (r : Fin 256) (j : Fin 16384) : outF m ρ c (ix2 r j) = E X W c r j * Ideal.div 1 (∑ k, E X W c r k) := by
  unfold outF
  rw [pay1_apply, sumE_apply m ρ H hl, outE_apply m ρ H hl]

end Cert.KProof

end
-- ==== Proof.Agree.lean ====
/-
# `Agree`: the kernel's results are the reference's

What the precondition says of the inputs, the array that the kernel leaves, and the algebraic claim.
-/
module

public import proofs.«01_k».proof.Proof.Values
public import proofs.«01_k».proof.Proof.Frames
public import Idealize.ShloMosaic.Lib.ReduceAll
public import Idealize.ShloMosaic.Lib.Pipeline.Value

@[expose] public section

set_option maxRecDepth 16384

noncomputable section

namespace Cert.KProof

open Cert.KernelIdeal Cert.KernelIdeal.Gen
open Idealize.ShloMosaic Idealize.SL.Sem
open Idealize.ShloMosaic.TcCoe
open Idealize.ShloMosaic.Pipeline (Dat)

/-! ## The precondition -/

/-- A number whose absolute value is below infinity is real. -/
theorem real_of_abs (a : EReal) (h : Ideal.cmp .olt (max a (-a)) (Ideal.ofBits .bf16 0x7F80#16) = 1#1) : IsReal a := by
  have ht : Ideal.ofBits .bf16 0x7F80#16 = (⊤ : EReal) := by simp [Ideal.ofBits, Ideal.ieee]
  rw [ht] at h
  have hlt : max a (-a) < ⊤ := by
    by_contra hn
    simp [Ideal.cmp, hn] at h
  induction a using EReal.rec with
  | bot => simp at hlt
  | top => simp at hlt
  | coe r => exact ⟨r, rfl⟩

instance : Subsingleton Cert.Pre_finite_inputs_KernelIdeal.S_.Idx := ⟨fun a b => funext fun i => i.elim0⟩

/-- The precondition, of one device's blocks: every entry of both is real. -/
theorem pre_real [Cert.Pre_finite_inputs_KernelIdeal.Facts] (x : FVec Ideal S256x512 .bf16) (w : FVec Ideal S512x4096 .bf16)
    (h : Cert.Pre_finite_inputs_KernelIdeal.fn (F := Ideal) x w = fun _ => 1#1) : (∀ i, IsReal (x i)) ∧ ∀ i, IsReal (w i) := by
  have h0 := congrFun h ix0
  dsimp only [Cert.Pre_finite_inputs_KernelIdeal.fn] at h0
  obtain ⟨h1, h2⟩ := IntOp.andi_eq_one.mp h0
  exact ⟨fun i => real_of_abs _ (Host.reduce_andi_all _ _ _ _ _ h1 i), fun i => real_of_abs _ (Host.reduce_andi_all _ _ _ _ _ h2 i)⟩

variable (m : (ℓ : Loc nD τ sig) → Buf (Elt Ideal) ℓ) (ρ : Dev nD → PrngReg)
variable {X : FVec Ideal S256x512 .bf16} {W : FVec Ideal Cert.ReferenceIdeal.S512x16384 .bf16} (H : Holds m X W)
include H

include ρ in
/-- With the precondition on every device, every logit is real. -/
theorem lg_real [Cert.Pre_finite_inputs_KernelIdeal.Facts]
    (hp : ∀ c : Dev nD, Cert.Pre_finite_inputs_KernelIdeal.fn (F := Ideal) (m ((c : Thread nD τ).loc main_arg0)) (m ((c : Thread nD τ).loc main_arg1)) = fun _ => 1#1)
    (r : Fin 256) (j : Fin 16384) : IsReal (Ref.lg X W r j) := by
  have hX : ∀ i, IsReal (X i) := fun i => by
    have := (pre_real _ _ (hp 0)).1 i
    rwa [(H 0).1] at this
  have hW : ∀ q : Fin 512, IsReal (W (ix2 q j)) := fun q => by
    have hj := j.isLt
    have hd : j.val / 4096 < nD := by show _ < 32; omega
    have e := win_apply m ρ H ⟨j.val / 4096, hd⟩ q ⟨j.val % 4096, Nat.mod_lt _ (by decide)⟩
    rw [show (⟨4096 * ((⟨j.val / 4096, hd⟩ : Dev nD).val % 4) + (⟨j.val % 4096, Nat.mod_lt _ (by decide)⟩ : Fin 4096).val, by dsimp only; omega⟩ : Fin 16384) = j
      from Fin.ext (by dsimp only; omega)] at e
    rw [← e]
    exact (pre_real _ _ (hp ⟨j.val / 4096, hd⟩)).2 ((win0_1.blk (0 : Fin 1)).view.emb (ix2 q ⟨j.val % 4096, Nat.mod_lt _ (by decide)⟩))
  exact IsReal.sum _ _ fun q => (hX _).mul (hW q)

/-! ## The array -/

omit H in
/-- The result's array ends holding what the body leaves in its staging buffer. -/
theorem finalA_out (c : Dev nD) : finalA m ρ c (2 : Fin 3) = outF m ρ c := by
  refine (dats m ρ 0 c).arrAt_eq_of_cover (2 : Fin 3) (outF m ρ c) (fun t _ => ?_) (fun i => ⟨(0 : Fin 1), flush0_2 _, ?_⟩)
  · obtain rfl : t = (0 : Fin 1) := Subsingleton.elim (α := Fin 1) _ _
    funext i
    show outF m ρ c _ = outF m ρ c ((win0_2.blk (0 : Fin 1)).view.emb i)
    rw [emb2]
  · have := (win0_2.blk (0 : Fin 1)).view.emb_mem_set i
    rwa [emb2] at this

/-- A device's result is its block of rows of the reference's. -/
theorem out_block (hl : ∀ r j, IsReal (Ref.lg X W r j)) (c : Dev nD) :
    outF m ρ c = Layout.blockN ⟨2, ![256, 16384]⟩ ⟨2, ![1024, 16384]⟩ (Layout.meshBlock [2, 4, 4] ![[2], []] c) (Ref.whole X W) := by
  funext i
  obtain ⟨r, j, rfl⟩ : ∃ (r : Fin 256) (j : Fin 16384), i = ix2 r j := ⟨i 0, i 1, funext fun a => by match a with | 0 => rfl | 1 => rfl⟩
  have hr := r.isLt
  have hz : c.val % 4 < 4 := Nat.mod_lt _ (by decide)
  rw [outF_apply m ρ H hl, Layout.blockN_apply]
  have e := Ref.whole_eq X W hl (c.val % 4) hz r j ⟨256 * (c.val % 4) + r.val, by omega⟩ rfl
  unfold E
  rw [← e]
  congr 1
  funext a
  apply Fin.ext
  rw [Layout.TilesN.idx_val]
  match a with
  | 0 => show 256 * (c.val % 4) + r.val = (c.val / 1 % 4 * 1 + 0) * 256 + r.val; omega
  | 1 => show j.val = 0 * 16384 + j.val; omega

omit H in
/-- The algebraic claim: with finite inputs, the devices' results are the blocks of rows of the reference's result. -/
theorem agrees [Cert.Pre_finite_inputs_KernelIdeal.Facts] : Cert.algebraic_KernelIdeal_ReferenceIdeal_pre_finite_inputs_KernelIdeal := by
  intro m g m' g' hp hm
  refine ⟨Ref.whole (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · have hb := out_block m g hm (lg_real m g hm hp)
    exact (θ_run defs _ _).mono (fun r h c => ⟨((h.1 c (2 : Fin 3)).trans (finalA_out m g c)).trans (hb c),
      (h.1 c (0 : Fin 3)).trans (finalA_x m g c), (h.1 c (1 : Fin 3)).trans (finalA_w m g c)⟩) (run_main m g)
  · have hr := Ref.res_eq m' 0
    exact (θ_run Cert.ReferenceIdeal.defs _ _).mono
      (fun r h => ⟨(h 0).1.trans hr, (h 0).2.1, (h 0).2.2⟩) (Cert.ReferenceIdeal.Value.run (F := Ideal) m' g')

end Cert.KProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Agree
public import proofs.«01_k».proof.Proof.Gen.Pre_finite_inputs_KernelIdeal
public import proofs.«01_k».proof.Proof.Gen.Pre_finite_inputs_ReferenceIdeal
public import Idealize.ShloMosaic.Adequacy
public import Idealize.ShloMosaic.Init

@[expose] public section

noncomputable section

namespace Cert.Proof

open Idealize.ShloMosaic Idealize.SL.Sem Cert.Kernel

/-- Every claim of this certificate: the frames (which need no precondition), the idealization, and the agreement of the results. -/
theorem claim : Cert.Claim := ⟨Cert.Kernel.Gen.facts, Cert.KernelIdeal.Gen.facts, Cert.ReferenceIdeal.Gen.facts,
  Cert.Pre_finite_inputs_KernelIdeal.Gen.facts, Cert.Pre_finite_inputs_ReferenceIdeal.Gen.facts,
  Cert.KProof.frame_kernel, Cert.KProof.frame_ideal, fun m g _ => Cert.KProof.frame_ideal m g trivial,
  Cert.KProof.frame_reference, fun m g _ => Cert.KProof.frame_reference m g trivial, trivial,
  letI := Cert.Pre_finite_inputs_KernelIdeal.Gen.facts; Cert.KProof.agrees⟩

end Cert.Proof

end
